-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  IdealRules.named_const.Statement Cert.KernelIdeal.κ "inv_dv" .f32 0x3BAAAAAB#32 ((192⁻¹ : ℝ) : EReal)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v15)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v13)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v32) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S16x2048x3328 : Shape := ⟨3, ![16, 2048, 3328]⟩
abbrev S768 : Shape := ⟨1, ![768]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4 : Shape := ⟨1, ![4]⟩
abbrev S4x1 : Shape := ⟨2, ![4, 1]⟩
abbrev S4x2 : Shape := ⟨2, ![4, 2]⟩
abbrev S4x2x1 : Shape := ⟨3, ![4, 2, 1]⟩
abbrev S4x2x256 : Shape := ⟨3, ![4, 2, 256]⟩
abbrev S4x192 : Shape := ⟨2, ![4, 192]⟩
abbrev S4x256 : Shape := ⟨2, ![4, 256]⟩
abbrev S1024 : Shape := ⟨1, ![1024]⟩
abbrev S4x1x256 : Shape := ⟨3, ![4, 1, 256]⟩
abbrev S16x2048x1024 : Shape := ⟨3, ![16, 2048, 1024]⟩
abbrev S1x2048x128 : Shape := ⟨3, ![1, 2048, 128]⟩
abbrev S1x2048x256 : Shape := ⟨3, ![1, 2048, 256]⟩
abbrev S1x2x256 : Shape := ⟨3, ![1, 2, 256]⟩
abbrev S1x1x256 : Shape := ⟨3, ![1, 1, 256]⟩
abbrev S2048x256 : Shape := ⟨2, ![2048, 256]⟩
abbrev S2x256x256 : Shape := ⟨3, ![2, 256, 256]⟩
abbrev S128x256 : Shape := ⟨2, ![128, 256]⟩
abbrev S1x256 : Shape := ⟨2, ![1, 256]⟩
abbrev S256x256 : Shape := ⟨2, ![256, 256]⟩
abbrev S256x128 : Shape := ⟨2, ![256, 128]⟩
abbrev S1x128 : Shape := ⟨2, ![1, 128]⟩
abbrev S1x1 : Shape := ⟨2, ![1, 1]⟩
abbrev S1x256x128 : Shape := ⟨3, ![1, 256, 128]⟩
abbrev S1x256x256 : Shape := ⟨3, ![1, 256, 256]⟩
abbrev S256 : Shape := ⟨1, ![256]⟩
abbrev S256x1 : Shape := ⟨2, ![256, 1]⟩

abbrev nBuf : Space → Nat
  | .hbm => 52
  | .vmem => 28
  | .smem => 0
  | _ => 0

abbrev bufTy : (tb : Table) → Fin (tcTables nBuf tb) → BufTy
  | .hbm, ⟨0, _⟩ => ⟨S16x2048x3328, .f32⟩
  | .hbm, ⟨1, _⟩ => ⟨S768, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S2048, .f32⟩
  | .hbm, ⟨11, _⟩ => ⟨S2048x1, .f32⟩
  | .hbm, ⟨12, _⟩ => ⟨S1x64, .f32⟩
  | .hbm, ⟨13, _⟩ => ⟨S2048x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x128, .f32⟩
  | .hbm, ⟨19, _⟩ => ⟨S2048x64, .f32⟩
  | .hbm, ⟨20, _⟩ => ⟨S2048x128, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S4, .f32⟩
  | .hbm, ⟨38, _⟩ => ⟨S4, .f32⟩
  | .hbm, ⟨39, _⟩ => ⟨S4, .f32⟩
  | .hbm, ⟨40, _⟩ => ⟨S4x1, .f32⟩
  | .hbm, ⟨41, _⟩ => ⟨S4x1, .f32⟩
  | .hbm, ⟨42, _⟩ => ⟨S4x2, .f32⟩
  | .hbm, ⟨43, _⟩ => ⟨S4x2x1, .f32⟩
  | .hbm, ⟨44, _⟩ => ⟨S4x2x256, .f32⟩
  | .hbm, ⟨45, _⟩ => ⟨S4x192, .f32⟩
  | .hbm, ⟨46, _⟩ => ⟨S_, .i32⟩
  | .hbm, ⟨47, _⟩ => ⟨S_, .f32⟩
  | .hbm, ⟨48, _⟩ => ⟨S4x256, .f32⟩
  | .hbm, ⟨49, _⟩ => ⟨S1024, .f32⟩
  | .hbm, ⟨50, _⟩ => ⟨S4x1x256, .f32⟩
  | .hbm, ⟨51, _⟩ => ⟨S16x2048x1024, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S2048x128, .f32⟩
  | .local _ .vmem, ⟨9, _⟩ => ⟨S2048x128, .f32⟩
  | .local _ .vmem, ⟨10, _⟩ => ⟨S1x2x256, .f32⟩
  | .local _ .vmem, ⟨11, _⟩ => ⟨S1x2x256, .f32⟩
  | .local _ .vmem, ⟨12, _⟩ => ⟨S1x1x256, .f32⟩
  | .local _ .vmem, ⟨13, _⟩ => ⟨S1x1x256, .f32⟩
  | .local _ .vmem, ⟨14, _⟩ => ⟨S1x2048x256, .bf16⟩
  | .local _ .vmem, ⟨15, _⟩ => ⟨S1x2048x256, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x256, .bf16⟩
  | .local _ .vmem, ⟨23, _⟩ => ⟨S2x256x256, .bf16⟩
  | .local _ .vmem, ⟨24, _⟩ => ⟨S2048x256, .f32⟩
  | .local _ .vmem, ⟨25, _⟩ => ⟨S2048x256, .f32⟩
  | .local _ .vmem, ⟨26, _⟩ => ⟨S128x256, .f32⟩
  | .local _ .vmem, ⟨27, _⟩ => ⟨S128x256, .f32⟩
  | _, _ => ⟨S16x2048x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c : Ref sig .tc := ⟨.hbm, 46, rfl⟩
abbrev main_call0_v0 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_scratch11 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c8_i32 : BitVec 32 := 8#32
  let v53 : BitVec 32 := Scalar.addi c0_i32 c8_i32
  let c1_i32 : BitVec 32 := 1#32
  ⟨c0_i32, v53, c1_i32⟩
def k0_mult1 (k0_t1 : Fin k0_t1_loop.trips) : BitVec 32 :=
  let c0_i32 : BitVec 32 := 0#32
  let c1_i32 : BitVec 32 := 1#32
  let arg23 : BitVec 32 := Scf.iv c0_i32 c1_i32 k0_t1
  let c256_i32 : BitVec 32 := 256#32
  let v80 : BitVec 32 := Scalar.muli arg23 c256_i32
  v80
def k0_off1 (k0_t1 : Fin k0_t1_loop.trips) : Fin 2 → Nat :=
  let c0_i32 : BitVec 32 := 0#32
  let c1_i32 : BitVec 32 := 1#32
  let arg23 : BitVec 32 := Scf.iv c0_i32 c1_i32 k0_t1
  let c256_i32 : BitVec 32 := 256#32
  let v80 : BitVec 32 := Scalar.muli arg23 c256_i32
  let v81 : BitVec 32 := v80
  let v82 : Index := Scalar.indexCast v81
  let c0_35 : Index := 0#32
  ![v82.toNat, 0]
def k0_off2 (k0_t1 : Fin k0_t1_loop.trips) : Fin 3 → Nat :=
  let c0_37 : Index := 0#32
  let c0_i32 : BitVec 32 := 0#32
  let c1_i32 : BitVec 32 := 1#32
  let arg23 : BitVec 32 := Scf.iv c0_i32 c1_i32 k0_t1
  let c256_i32 : BitVec 32 := 256#32
  let v80 : BitVec 32 := Scalar.muli arg23 c256_i32
  let v81 : BitVec 32 := v80
  let v88 : Index := Scalar.indexCast v81
  let c0_38 : Index := 0#32
  ![0, v88.toNat, 0]
def k0_off3 (k0_t1 : Fin k0_t1_loop.trips) : Fin 3 → Nat :=
  let c0_49 : Index := 0#32
  let c0_i32 : BitVec 32 := 0#32
  let c1_i32 : BitVec 32 := 1#32
  let arg23 : BitVec 32 := Scf.iv c0_i32 c1_i32 k0_t1
  let c256_i32 : BitVec 32 := 256#32
  let v80 : BitVec 32 := Scalar.muli arg23 c256_i32
  let v81 : BitVec 32 := v80
  let v138 : Index := Scalar.indexCast v81
  let c0_50 : Index := 0#32
  ![0, v138.toNat, 0]
def k0_off4 (k0_t1 : Fin k0_t1_loop.trips) : Fin 2 → Nat :=
  let c0_i32 : BitVec 32 := 0#32
  let c1_i32 : BitVec 32 := 1#32
  let arg23 : BitVec 32 := Scf.iv c0_i32 c1_i32 k0_t1
  let c256_i32 : BitVec 32 := 256#32
  let v80 : BitVec 32 := Scalar.muli arg23 c256_i32
  let v81 : BitVec 32 := v80
  let v142 : Index := Scalar.indexCast v81
  let c0_51 : Index := 0#32
  ![v142.toNat, 0]
def k0_mult2 : BitVec 32 :=
  let c0_i32_18 : BitVec 32 := 0#32
  c0_i32_18
@[reducible] def k0_t2_loop : Scf.Loop 32 :=
  let c0_i32_25 : BitVec 32 := 0#32
  let c4_i32 : BitVec 32 := 4#32
  let v73 : BitVec 32 := Scalar.addi c0_i32_25 c4_i32
  let c1_i32_26 : BitVec 32 := 1#32
  ⟨c0_i32_25, v73, c1_i32_26⟩
def k0_mult3 (k0_t2 : Fin k0_t2_loop.trips) : BitVec 32 :=
  let c2_i32 : BitVec 32 := 2#32
  let c0_i32_25 : BitVec 32 := 0#32
  let c1_i32_26 : BitVec 32 := 1#32
  let arg23 : BitVec 32 := Scf.iv c0_i32_25 c1_i32_26 k0_t2
  let v80 : BitVec 32 := Scalar.muli c2_i32 arg23
  let c1_i32_35 : BitVec 32 := 1#32
  let v81 : BitVec 32 := Scalar.addi v80 c1_i32_35
  let c7_i32 : BitVec 32 := 7#32
  let v82 : BitVec 32 := Scalar.minsi v81 c7_i32
  let c256_i32 : BitVec 32 := 256#32
  let v83 : BitVec 32 := Scalar.muli v82 c256_i32
  v83
def k0_off5 (k0_t2 : Fin k0_t2_loop.trips) : Fin 2 → Nat :=
  let c2_i32 : BitVec 32 := 2#32
  let c0_i32_25 : BitVec 32 := 0#32
  let c1_i32_26 : BitVec 32 := 1#32
  let arg23 : BitVec 32 := Scf.iv c0_i32_25 c1_i32_26 k0_t2
  let v80 : BitVec 32 := Scalar.muli c2_i32 arg23
  let c1_i32_35 : BitVec 32 := 1#32
  let v81 : BitVec 32 := Scalar.addi v80 c1_i32_35
  let c7_i32 : BitVec 32 := 7#32
  let v82 : BitVec 32 := Scalar.minsi v81 c7_i32
  let c256_i32 : BitVec 32 := 256#32
  let v83 : BitVec 32 := Scalar.muli v82 c256_i32
  let v84 : BitVec 32 := v83
  let v85 : Index := Scalar.indexCast v84
  let c0_36 : Index := 0#32
  ![v85.toNat, 0]
def k0_mult4 (k0_t2 : Fin k0_t2_loop.trips) : BitVec 32 :=
  let c2_i32 : BitVec 32 := 2#32
  let c0_i32_25 : BitVec 32 := 0#32
  let c1_i32_26 : BitVec 32 := 1#32
  let arg23 : BitVec 32 := Scf.iv c0_i32_25 c1_i32_26 k0_t2
  let v80 : BitVec 32 := Scalar.muli c2_i32 arg23
  let c256_i32_42 : BitVec 32 := 256#32
  let v95 : BitVec 32 := Scalar.muli v80 c256_i32_42
  v95
def k0_off6 (k0_t2 : Fin k0_t2_loop.trips) : Fin 2 → Nat :=
  let c2_i32 : BitVec 32 := 2#32
  let c0_i32_25 : BitVec 32 := 0#32
  let c1_i32_26 : BitVec 32 := 1#32
  let arg23 : BitVec 32 := Scf.iv c0_i32_25 c1_i32_26 k0_t2
  let v80 : BitVec 32 := Scalar.muli c2_i32 arg23
  let c256_i32_42 : BitVec 32 := 256#32
  let v95 : BitVec 32 := Scalar.muli v80 c256_i32_42
  let v96 : BitVec 32 := v95
  let v97 : Index := Scalar.indexCast v96
  let c0_43 : Index := 0#32
  ![v97.toNat, 0]
def k0_off7 (k0_t2 : Fin k0_t2_loop.trips) : Fin 2 → Nat :=
  let c2_i32 : BitVec 32 := 2#32
  let c0_i32_25 : BitVec 32 := 0#32
  let c1_i32_26 : BitVec 32 := 1#32
  let arg23 : BitVec 32 := Scf.iv c0_i32_25 c1_i32_26 k0_t2
  let v80 : BitVec 32 := Scalar.muli c2_i32 arg23
  let c256_i32_42 : BitVec 32 := 256#32
  let v95 : BitVec 32 := Scalar.muli v80 c256_i32_42
  let v96 : BitVec 32 := v95
  let v103 : Index := Scalar.indexCast v96
  let c0_50 : Index := 0#32
  ![v103.toNat, 0]
def k0_mult5 (k0_t2 : Fin k0_t2_loop.trips) : BitVec 32 :=
  let c7_i32_57 : BitVec 32 := 7#32
  let c2_i32 : BitVec 32 := 2#32
  let c0_i32_25 : BitVec 32 := 0#32
  let c1_i32_26 : BitVec 32 := 1#32
  let arg23 : BitVec 32 := Scf.iv c0_i32_25 c1_i32_26 k0_t2
  let v80 : BitVec 32 := Scalar.muli c2_i32 arg23
  let v121 : BitVec 32 := Scalar.subi c7_i32_57 v80
  let c256_i32_58 : BitVec 32 := 256#32
  let v122 : BitVec 32 := Scalar.muli v121 c256_i32_58
  v122
def k0_off8 (k0_t2 : Fin k0_t2_loop.trips) : Fin 2 → Nat :=
  let c7_i32_57 : BitVec 32 := 7#32
  let c2_i32 : BitVec 32 := 2#32
  let c0_i32_25 : BitVec 32 := 0#32
  let c1_i32_26 : BitVec 32 := 1#32
  let arg23 : BitVec 32 := Scf.iv c0_i32_25 c1_i32_26 k0_t2
  let v80 : BitVec 32 := Scalar.muli c2_i32 arg23
  let v121 : BitVec 32 := Scalar.subi c7_i32_57 v80
  let c256_i32_58 : BitVec 32 := 256#32
  let v122 : BitVec 32 := Scalar.muli v121 c256_i32_58
  let v123 : BitVec 32 := v122
  let v124 : Index := Scalar.indexCast v123
  let c0_59 : Index := 0#32
  ![v124.toNat, 0]
def k0_off9 (k0_t2 : Fin k0_t2_loop.trips) : Fin 2 → Nat :=
  let c7_i32_57 : BitVec 32 := 7#32
  let c2_i32 : BitVec 32 := 2#32
  let c0_i32_25 : BitVec 32 := 0#32
  let c1_i32_26 : BitVec 32 := 1#32
  let arg23 : BitVec 32 := Scf.iv c0_i32_25 c1_i32_26 k0_t2
  let v80 : BitVec 32 := Scalar.muli c2_i32 arg23
  let v121 : BitVec 32 := Scalar.subi c7_i32_57 v80
  let c256_i32_58 : BitVec 32 := 256#32
  let v122 : BitVec 32 := Scalar.muli v121 c256_i32_58
  let v123 : BitVec 32 := v122
  let v127 : Index := Scalar.indexCast v123
  let c0_62 : Index := 0#32
  ![v127.toNat, 0]
def k0_mult6 (k0_t2 : Fin k0_t2_loop.trips) : BitVec 32 :=
  let c2_i32_69 : BitVec 32 := 2#32
  let c0_i32_25 : BitVec 32 := 0#32
  let c1_i32_26 : BitVec 32 := 1#32
  let arg23 : BitVec 32 := Scf.iv c0_i32_25 c1_i32_26 k0_t2
  let v144 : BitVec 32 := Scalar.muli c2_i32_69 arg23
  let c1_i32_70 : BitVec 32 := 1#32
  let v145 : BitVec 32 := Scalar.addi v144 c1_i32_70
  let c1_i32_71 : BitVec 32 := 1#32
  let v146 : BitVec 32 := Scalar.addi v145 c1_i32_71
  let c7_i32_72 : BitVec 32 := 7#32
  let v147 : BitVec 32 := Scalar.minsi v146 c7_i32_72
  let c256_i32_73 : BitVec 32 := 256#32
  let v148 : BitVec 32 := Scalar.muli v147 c256_i32_73
  v148
def k0_off10 (k0_t2 : Fin k0_t2_loop.trips) : Fin 2 → Nat :=
  let c2_i32_69 : BitVec 32 := 2#32
  let c0_i32_25 : BitVec 32 := 0#32
  let c1_i32_26 : BitVec 32 := 1#32
  let arg23 : BitVec 32 := Scf.iv c0_i32_25 c1_i32_26 k0_t2
  let v144 : BitVec 32 := Scalar.muli c2_i32_69 arg23
  let c1_i32_70 : BitVec 32 := 1#32
  let v145 : BitVec 32 := Scalar.addi v144 c1_i32_70
  let c1_i32_71 : BitVec 32 := 1#32
  let v146 : BitVec 32 := Scalar.addi v145 c1_i32_71
  let c7_i32_72 : BitVec 32 := 7#32
  let v147 : BitVec 32 := Scalar.minsi v146 c7_i32_72
  let c256_i32_73 : BitVec 32 := 256#32
  let v148 : BitVec 32 := Scalar.muli v147 c256_i32_73
  let v149 : BitVec 32 := v148
  let v150 : Index := Scalar.indexCast v149
  let c0_74 : Index := 0#32
  ![v150.toNat, 0]
def k0_mult7 (k0_t2 : Fin k0_t2_loop.trips) : BitVec 32 :=
  let c2_i32_69 : BitVec 32 := 2#32
  let c0_i32_25 : BitVec 32 := 0#32
  let c1_i32_26 : BitVec 32 := 1#32
  let arg23 : BitVec 32 := Scf.iv c0_i32_25 c1_i32_26 k0_t2
  let v144 : BitVec 32 := Scalar.muli c2_i32_69 arg23
  let c1_i32_70 : BitVec 32 := 1#32
  let v145 : BitVec 32 := Scalar.addi v144 c1_i32_70
  let c256_i32_80 : BitVec 32 := 256#32
  let v160 : BitVec 32 := Scalar.muli v145 c256_i32_80
  v160
def k0_off11 (k0_t2 : Fin k0_t2_loop.trips) : Fin 2 → Nat :=
  let c2_i32_69 : BitVec 32 := 2#32
  let c0_i32_25 : BitVec 32 := 0#32
  let c1_i32_26 : BitVec 32 := 1#32
  let arg23 : BitVec 32 := Scf.iv c0_i32_25 c1_i32_26 k0_t2
  let v144 : BitVec 32 := Scalar.muli c2_i32_69 arg23
  let c1_i32_70 : BitVec 32 := 1#32
  let v145 : BitVec 32 := Scalar.addi v144 c1_i32_70
  let c256_i32_80 : BitVec 32 := 256#32
  let v160 : BitVec 32 := Scalar.muli v145 c256_i32_80
  let v161 : BitVec 32 := v160
  let v162 : Index := Scalar.indexCast v161
  let c0_81 : Index := 0#32
  ![v162.toNat, 0]
def k0_off12 (k0_t2 : Fin k0_t2_loop.trips) : Fin 2 → Nat :=
  let c2_i32_69 : BitVec 32 := 2#32
  let c0_i32_25 : BitVec 32 := 0#32
  let c1_i32_26 : BitVec 32 := 1#32
  let arg23 : BitVec 32 := Scf.iv c0_i32_25 c1_i32_26 k0_t2
  let v144 : BitVec 32 := Scalar.muli c2_i32_69 arg23
  let c1_i32_70 : BitVec 32 := 1#32
  let v145 : BitVec 32 := Scalar.addi v144 c1_i32_70
  let c256_i32_80 : BitVec 32 := 256#32
  let v160 : BitVec 32 := Scalar.muli v145 c256_i32_80
  let v161 : BitVec 32 := v160
  let v168 : Index := Scalar.indexCast v161
  let c0_88 : Index := 0#32
  ![v168.toNat, 0]
def k0_mult8 (k0_t2 : Fin k0_t2_loop.trips) : BitVec 32 :=
  let c7_i32_95 : BitVec 32 := 7#32
  let c2_i32_69 : BitVec 32 := 2#32
  let c0_i32_25 : BitVec 32 := 0#32
  let c1_i32_26 : BitVec 32 := 1#32
  let arg23 : BitVec 32 := Scf.iv c0_i32_25 c1_i32_26 k0_t2
  let v144 : BitVec 32 := Scalar.muli c2_i32_69 arg23
  let c1_i32_70 : BitVec 32 := 1#32
  let v145 : BitVec 32 := Scalar.addi v144 c1_i32_70
  let v186 : BitVec 32 := Scalar.subi c7_i32_95 v145
  let c256_i32_96 : BitVec 32 := 256#32
  let v187 : BitVec 32 := Scalar.muli v186 c256_i32_96
  v187
def k0_off13 (k0_t2 : Fin k0_t2_loop.trips) : Fin 2 → Nat :=
  let c7_i32_95 : BitVec 32 := 7#32
  let c2_i32_69 : BitVec 32 := 2#32
  let c0_i32_25 : BitVec 32 := 0#32
  let c1_i32_26 : BitVec 32 := 1#32
  let arg23 : BitVec 32 := Scf.iv c0_i32_25 c1_i32_26 k0_t2
  let v144 : BitVec 32 := Scalar.muli c2_i32_69 arg23
  let c1_i32_70 : BitVec 32 := 1#32
  let v145 : BitVec 32 := Scalar.addi v144 c1_i32_70
  let v186 : BitVec 32 := Scalar.subi c7_i32_95 v145
  let c256_i32_96 : BitVec 32 := 256#32
  let v187 : BitVec 32 := Scalar.muli v186 c256_i32_96
  let v188 : BitVec 32 := v187
  let v189 : Index := Scalar.indexCast v188
  let c0_97 : Index := 0#32
  ![v189.toNat, 0]
def k0_off14 (k0_t2 : Fin k0_t2_loop.trips) : Fin 2 → Nat :=
  let c7_i32_95 : BitVec 32 := 7#32
  let c2_i32_69 : BitVec 32 := 2#32
  let c0_i32_25 : BitVec 32 := 0#32
  let c1_i32_26 : BitVec 32 := 1#32
  let arg23 : BitVec 32 := Scf.iv c0_i32_25 c1_i32_26 k0_t2
  let v144 : BitVec 32 := Scalar.muli c2_i32_69 arg23
  let c1_i32_70 : BitVec 32 := 1#32
  let v145 : BitVec 32 := Scalar.addi v144 c1_i32_70
  let v186 : BitVec 32 := Scalar.subi c7_i32_95 v145
  let c256_i32_96 : BitVec 32 := 256#32
  let v187 : BitVec 32 := Scalar.muli v186 c256_i32_96
  let v188 : BitVec 32 := v187
  let v192 : Index := Scalar.indexCast v188
  let c0_100 : Index := 0#32
  ![v192.toNat, 0]
@[reducible] def k0_t3_loop : Scf.Loop 32 :=
  let c0_i32_31 : BitVec 32 := 0#32
  let c8_i32_32 : BitVec 32 := 8#32
  let v79 : BitVec 32 := Scalar.addi c0_i32_31 c8_i32_32
  let c1_i32_33 : BitVec 32 := 1#32
  ⟨c0_i32_31, v79, c1_i32_33⟩
def k0_mult9 (k0_t3 : Fin k0_t3_loop.trips) : BitVec 32 :=
  let c0_i32_31 : BitVec 32 := 0#32
  let c1_i32_33 : BitVec 32 := 1#32
  let arg23 : BitVec 32 := Scf.iv c0_i32_31 c1_i32_33 k0_t3
  let c256_i32 : BitVec 32 := 256#32
  let v80 : BitVec 32 := Scalar.muli arg23 c256_i32
  v80
def k0_off15 (k0_t3 : Fin k0_t3_loop.trips) : Fin 2 → Nat :=
  let c0_i32_31 : BitVec 32 := 0#32
  let c1_i32_33 : BitVec 32 := 1#32
  let arg23 : BitVec 32 := Scf.iv c0_i32_31 c1_i32_33 k0_t3
  let c256_i32 : BitVec 32 := 256#32
  let v80 : BitVec 32 := Scalar.muli arg23 c256_i32
  let v81 : BitVec 32 := v80
  let v82 : Index := Scalar.indexCast v81
  let c0_35 : Index := 0#32
  ![v82.toNat, 0]
def k0_off16 (k0_t3 : Fin k0_t3_loop.trips) : Fin 3 → Nat :=
  let c0_43 : Index := 0#32
  let c0_i32_31 : BitVec 32 := 0#32
  let c1_i32_33 : BitVec 32 := 1#32
  let arg23 : BitVec 32 := Scf.iv c0_i32_31 c1_i32_33 k0_t3
  let c256_i32 : BitVec 32 := 256#32
  let v80 : BitVec 32 := Scalar.muli arg23 c256_i32
  let v81 : BitVec 32 := v80
  let v109 : Index := Scalar.indexCast v81
  let c0_44 : Index := 0#32
  ![0, v109.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "inv_dv" => some ((192⁻¹ : ℝ) : EReal)
  | _ => none
-- ==== ReferenceIdeal.lean ====
abbrev S16x2048x3328 : Shape := ⟨3, ![16, 2048, 3328]⟩
abbrev S768 : Shape := ⟨1, ![768]⟩
abbrev S16x2048x512 : Shape := ⟨3, ![16, 2048, 512]⟩
abbrev S16x2048x4x128 : Shape := ⟨4, ![16, 2048, 4, 128]⟩
abbrev S16x4x2048x128 : Shape := ⟨4, ![16, 4, 2048, 128]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S16x4x2048x64 : Shape := ⟨4, ![16, 4, 2048, 64]⟩
abbrev S1x1x2048x64 : Shape := ⟨4, ![1, 1, 2048, 64]⟩
abbrev S16x2048x1024 : Shape := ⟨3, ![16, 2048, 1024]⟩
abbrev S16x2048x4x256 : Shape := ⟨4, ![16, 2048, 4, 256]⟩
abbrev S16x4x2048x256 : Shape := ⟨4, ![16, 4, 2048, 256]⟩
abbrev S16x4x2048x192 : Shape := ⟨4, ![16, 4, 2048, 192]⟩
abbrev S16x2048x4x192 : Shape := ⟨4, ![16, 2048, 4, 192]⟩
abbrev S4 : Shape := ⟨1, ![4]⟩
abbrev S1x4x1x1 : Shape := ⟨4, ![1, 4, 1, 1]⟩
abbrev S16x4x2048x1 : Shape := ⟨4, ![16, 4, 2048, 1]⟩
abbrev S1x2048 : Shape := ⟨2, ![1, 2048]⟩
abbrev S2048x2048 : Shape := ⟨2, ![2048, 2048]⟩
abbrev S16x4x2048 : Shape := ⟨3, ![16, 4, 2048]⟩
abbrev S16x4x1x2048 : Shape := ⟨4, ![16, 4, 1, 2048]⟩
abbrev S16x4x2048x2048 : Shape := ⟨4, ![16, 4, 2048, 2048]⟩
abbrev S16x2048x4 : Shape := ⟨3, ![16, 2048, 4]⟩
abbrev S16x2048x4x1 : Shape := ⟨4, ![16, 2048, 4, 1]⟩
abbrev S4x192 : Shape := ⟨2, ![4, 192]⟩
abbrev S1x1x4x192 : Shape := ⟨4, ![1, 1, 4, 192]⟩

abbrev nBuf : Space → Nat
  | .hbm => 214
  | .vmem => 0
  | .smem => 0
  | _ => 0

abbrev hbmTy0_0 (i : Nat) : BufTy := match i % 128 with
  | 0 => ⟨S16x2048x3328, .f32⟩
  | 1 => ⟨S768, .f32⟩
  | 2 => ⟨S16x2048x512, .f32⟩
  | 3 => ⟨S16x2048x4x128, .f32⟩
  | 4 => ⟨S16x4x2048x128, .f32⟩
  | 5 => ⟨S64, .f32⟩
  | 6 => ⟨S64, .f32⟩
  | 7 => ⟨S_, .f32⟩
  | 8 => ⟨S64, .f32⟩
  | 9 => ⟨S64, .f32⟩
  | 10 => ⟨S_, .f32⟩
  | 11 => ⟨S64, .f32⟩
  | 12 => ⟨S64, .f32⟩
  | 13 => ⟨S2048, .f32⟩
  | 14 => ⟨S2048x1, .f32⟩
  | 15 => ⟨S1x64, .f32⟩
  | 16 => ⟨S2048x64, .f32⟩
  | 17 => ⟨S2048x64, .f32⟩
  | 18 => ⟨S2048x64, .f32⟩
  | 19 => ⟨S2048x64, .f32⟩
  | 20 => ⟨S2048x64, .f32⟩
  | 21 => ⟨S16x4x2048x64, .f32⟩
  | 22 => ⟨S16x4x2048x64, .f32⟩
  | 23 => ⟨S1x1x2048x64, .f32⟩
  | 24 => ⟨S16x4x2048x64, .f32⟩
  | 25 => ⟨S16x4x2048x64, .f32⟩
  | 26 => ⟨S1x1x2048x64, .f32⟩
  | 27 => ⟨S16x4x2048x64, .f32⟩
  | 28 => ⟨S16x4x2048x64, .f32⟩
  | 29 => ⟨S16x4x2048x64, .f32⟩
  | 30 => ⟨S1x1x2048x64, .f32⟩
  | 31 => ⟨S16x4x2048x64, .f32⟩
  | 32 => ⟨S16x4x2048x64, .f32⟩
  | 33 => ⟨S1x1x2048x64, .f32⟩
  | 34 => ⟨S16x4x2048x64, .f32⟩
  | 35 => ⟨S16x4x2048x64, .f32⟩
  | 36 => ⟨S16x4x2048x64, .f32⟩
  | 37 => ⟨S16x4x2048x128, .f32⟩
  | 38 => ⟨S16x2048x512, .f32⟩
  | 39 => ⟨S16x2048x4x128, .f32⟩
  | 40 => ⟨S16x4x2048x128, .f32⟩
  | 41 => ⟨S64, .f32⟩
  | 42 => ⟨S64, .f32⟩
  | 43 => ⟨S_, .f32⟩
  | 44 => ⟨S64, .f32⟩
  | 45 => ⟨S64, .f32⟩
  | 46 => ⟨S_, .f32⟩
  | 47 => ⟨S64, .f32⟩
  | 48 => ⟨S64, .f32⟩
  | 49 => ⟨S2048, .f32⟩
  | 50 => ⟨S2048x1, .f32⟩
  | 51 => ⟨S1x64, .f32⟩
  | 52 => ⟨S2048x64, .f32⟩
  | 53 => ⟨S2048x64, .f32⟩
  | 54 => ⟨S2048x64, .f32⟩
  | 55 => ⟨S2048x64, .f32⟩
  | 56 => ⟨S2048x64, .f32⟩
  | 57 => ⟨S16x4x2048x64, .f32⟩
  | 58 => ⟨S16x4x2048x64, .f32⟩
  | 59 => ⟨S1x1x2048x64, .f32⟩
  | 60 => ⟨S16x4x2048x64, .f32⟩
  | 61 => ⟨S16x4x2048x64, .f32⟩
  | 62 => ⟨S1x1x2048x64, .f32⟩
  | 63 => ⟨S16x4x2048x64, .f32⟩
  | 64 => ⟨S16x4x2048x64, .f32⟩
  | 65 => ⟨S16x4x2048x64, .f32⟩
  | 66 => ⟨S1x1x2048x64, .f32⟩
  | 67 => ⟨S16x4x2048x64, .f32⟩
  | 68 => ⟨S16x4x2048x64, .f32⟩
  | 69 => ⟨S1x1x2048x64, .f32⟩
  | 70 => ⟨S16x4x2048x64, .f32⟩
  | 71 => ⟨S16x4x2048x64, .f32⟩
  | 72 => ⟨S16x4x2048x64, .f32⟩
  | 73 => ⟨S16x4x2048x128, .f32⟩
  | 74 => ⟨S_, .f32⟩
  | 75 => ⟨S16x4x2048x128, .f32⟩
  | 76 => ⟨S16x4x2048x128, .f32⟩
  | 77 => ⟨S16x2048x1024, .f32⟩
  | 78 => ⟨S16x2048x4x256, .f32⟩
  | 79 => ⟨S16x4x2048x256, .f32⟩
  | 80 => ⟨S16x4x2048x192, .f32⟩
  | 81 => ⟨S16x2048x1024, .f32⟩
  | 82 => ⟨S16x2048x4x256, .f32⟩
  | 83 => ⟨S16x2048x4x192, .f32⟩
  | 84 => ⟨S4, .f32⟩
  | 85 => ⟨S_, .f32⟩
  | 86 => ⟨S4, .f32⟩
  | 87 => ⟨S4, .f32⟩
  | 88 => ⟨S_, .f32⟩
  | 89 => ⟨S4, .f32⟩
  | 90 => ⟨S4, .f32⟩
  | 91 => ⟨S4, .f32⟩
  | 92 => ⟨S4, .f32⟩
  | 93 => ⟨S4, .f32⟩
  | 94 => ⟨S_, .f32⟩
  | 95 => ⟨S4, .f32⟩
  | 96 => ⟨S4, .f32⟩
  | 97 => ⟨S_, .f32⟩
  | 98 => ⟨S4, .f32⟩
  | 99 => ⟨S4, .f32⟩
  | 100 => ⟨S4, .f32⟩
  | 101 => ⟨S4, .f32⟩
  | 102 => ⟨S4, .f32⟩
  | 103 => ⟨S1x4x1x1, .f32⟩
  | 104 => ⟨S16x4x2048x1, .f32⟩
  | 105 => ⟨S1x4x1x1, .f32⟩
  | 106 => ⟨S16x4x2048x1, .f32⟩
  | 107 => ⟨S_, .f32⟩
  | 108 => ⟨S_, .f32⟩
  | 109 => ⟨S16x4x2048x1, .f32⟩
  | 110 => ⟨S2048, .i32⟩
  | 111 => ⟨S2048x1, .i32⟩
  | 112 => ⟨S1x2048, .i32⟩
  | 113 => ⟨S2048x2048, .i32⟩
  | 114 => ⟨S2048x2048, .i32⟩
  | 115 => ⟨S2048x2048, .i1⟩
  | 116 => ⟨S16x4x2048, .f32⟩
  | 117 => ⟨S16x4x2048x1, .f32⟩
  | 118 => ⟨S16x4x2048, .f32⟩
  | 119 => ⟨S16x4x1x2048, .f32⟩
  | 120 => ⟨S16x4x2048x2048, .f32⟩
  | 121 => ⟨S16x4x2048x2048, .f32⟩
  | 122 => ⟨S16x4x2048x2048, .f32⟩
  | 123 => ⟨S_, .f32⟩
  | 124 => ⟨S_, .f32⟩
  | 125 => ⟨S16x4x2048x2048, .i1⟩
  | 126 => ⟨S16x4x2048x2048, .f32⟩
  | 127 => ⟨S16x4x2048x2048, .f32⟩
  | _ => ⟨S16x2048x3328, .f32⟩

abbrev hbmTy0_1 (i : Nat) : BufTy := match i % 128 with
  | 0 => ⟨S16x4x2048x2048, .f32⟩
  | 1 => ⟨S_, .f32⟩
  | 2 => ⟨S_, .f32⟩
  | 3 => ⟨S16x4x2048x2048, .i1⟩
  | 4 => ⟨S16x4x2048x2048, .f32⟩
  | 5 => ⟨S16x4x2048x2048, .f32⟩
  | 6 => ⟨S16x4x2048x2048, .f32⟩
  | 7 => ⟨S16x4x2048x2048, .f32⟩
  | 8 => ⟨S16x4x2048x192, .f32⟩
  | 9 => ⟨S16x4x2048x128, .f32⟩
  | 10 => ⟨S16x4x2048x128, .f32⟩
  | 11 => ⟨S16x4x2048x192, .f32⟩
  | 12 => ⟨S16x4x2048x1, .f32⟩
  | 13 => ⟨S_, .f32⟩
  | 14 => ⟨S_, .f32⟩
  | 15 => ⟨S16x4x2048x1, .f32⟩
  | 16 => ⟨S2048, .i32⟩
  | 17 => ⟨S2048x1, .i32⟩
  | 18 => ⟨S1x2048, .i32⟩
  | 19 => ⟨S2048x2048, .i32⟩
  | 20 => ⟨S2048x2048, .i32⟩
  | 21 => ⟨S2048x2048, .i1⟩
  | 22 => ⟨S16x4x2048, .f32⟩
  | 23 => ⟨S16x4x2048x1, .f32⟩
  | 24 => ⟨S16x4x2048, .f32⟩
  | 25 => ⟨S16x4x1x2048, .f32⟩
  | 26 => ⟨S16x4x2048x2048, .f32⟩
  | 27 => ⟨S16x4x2048x2048, .f32⟩
  | 28 => ⟨S16x4x2048x2048, .f32⟩
  | 29 => ⟨S_, .f32⟩
  | 30 => ⟨S_, .f32⟩
  | 31 => ⟨S16x4x2048x2048, .i1⟩
  | 32 => ⟨S16x4x2048x2048, .f32⟩
  | 33 => ⟨S16x4x2048x2048, .f32⟩
  | 34 => ⟨S16x4x2048x2048, .f32⟩
  | 35 => ⟨S_, .f32⟩
  | 36 => ⟨S_, .f32⟩
  | 37 => ⟨S16x4x2048x2048, .i1⟩
  | 38 => ⟨S16x4x2048x2048, .f32⟩
  | 39 => ⟨S16x4x2048x2048, .f32⟩
  | 40 => ⟨S16x4x2048x2048, .f32⟩
  | 41 => ⟨S16x4x2048x2048, .f32⟩
  | 42 => ⟨S16x4x2048x192, .f32⟩
  | 43 => ⟨S16x4x2048x192, .f32⟩
  | 44 => ⟨S16x4x2048x192, .f32⟩
  | 45 => ⟨S16x2048x4x192, .f32⟩
  | 46 => ⟨S_, .f32⟩
  | 47 => ⟨S16x2048x4, .f32⟩
  | 48 => ⟨S16x2048x4x1, .f32⟩
  | 49 => ⟨S_, .f32⟩
  | 50 => ⟨S16x2048x4x1, .f32⟩
  | 51 => ⟨S16x2048x4x1, .f32⟩
  | 52 => ⟨S16x2048x4x192, .f32⟩
  | 53 => ⟨S16x2048x4x192, .f32⟩
  | 54 => ⟨S16x2048x4x192, .f32⟩
  | 55 => ⟨S_, .f32⟩
  | 56 => ⟨S16x2048x4, .f32⟩
  | 57 => ⟨S16x2048x4x1, .f32⟩
  | 58 => ⟨S_, .f32⟩
  | 59 => ⟨S16x2048x4x1, .f32⟩
  | 60 => ⟨S16x2048x4x1, .f32⟩
  | 61 => ⟨S_, .f32⟩
  | 62 => ⟨S16x2048x4x1, .f32⟩
  | 63 => ⟨S16x2048x4x1, .f32⟩
  | 64 => ⟨S16x2048x4x1, .f32⟩
  | 65 => ⟨S16x2048x4x192, .f32⟩
  | 66 => ⟨S16x2048x4x192, .f32⟩
  | 67 => ⟨S4x192, .f32⟩
  | 68 => ⟨S1x1x4x192, .f32⟩
  | 69 => ⟨S16x2048x4x192, .f32⟩
  | 70 => ⟨S16x2048x4x192, .f32⟩
  | 71 => ⟨S16x2048x4x192, .f32⟩
  | 72 => ⟨S16x2048x4x192, .f32⟩
  | 73 => ⟨S_, .f32⟩
  | 74 => ⟨S16x2048x4x192, .f32⟩
  | 75 => ⟨S16x2048x4x192, .f32⟩
  | 76 => ⟨S_, .f32⟩
  | 77 => ⟨S16x2048x4x192, .f32⟩
  | 78 => ⟨S16x2048x4x192, .f32⟩
  | 79 => ⟨S16x2048x4x192, .f32⟩
  | 80 => ⟨S16x2048x4x192, .f32⟩
  | 81 => ⟨S_, .i32⟩
  | 82 => ⟨S_, .f32⟩
  | 83 => ⟨S16x2048x4x256, .f32⟩
  | 84 => ⟨S16x2048x1024, .f32⟩
  | 85 => ⟨S16x2048x1024, .bf16⟩
  | _ => ⟨S16x2048x3328, .f32⟩

abbrev hbmTy (i : Nat) : BufTy := match i / 128 with
  | 0 => hbmTy0_0 i
  | 1 => hbmTy0_1 i
  | _ => ⟨S16x2048x3328, .f32⟩

abbrev bufTy : (tb : Table) → Fin (tcTables nBuf tb) → BufTy
  | .hbm, ⟨i, _⟩ => hbmTy i
  | _, _ => ⟨S16x2048x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_cst_1 : Ref sig .tc := ⟨.hbm, 43, rfl⟩
abbrev main_v39 : Ref sig .tc := ⟨.hbm, 44, rfl⟩
abbrev main_v40 : Ref sig .tc := ⟨.hbm, 45, rfl⟩
abbrev main_cst_2 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_cst_3 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_cst_4 : Ref sig .tc := ⟨.hbm, 85, rfl⟩
abbrev main_v78 : Ref sig .tc := ⟨.hbm, 86, rfl⟩
abbrev main_v79 : Ref sig .tc := ⟨.hbm, 87, rfl⟩
abbrev main_cst_5 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_cst_6 : Ref sig .tc := ⟨.hbm, 94, rfl⟩
abbrev main_v85 : Ref sig .tc := ⟨.hbm, 95, rfl⟩
abbrev main_v86 : Ref sig .tc := ⟨.hbm, 96, rfl⟩
abbrev main_cst_7 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_call0_call0_cst : Ref sig .tc := ⟨.hbm, 107, rfl⟩
abbrev main_call0_call0_v0 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_cst_8 : Ref sig .tc := ⟨.hbm, 123, rfl⟩
abbrev main_call1_v0 : Ref sig .tc := ⟨.hbm, 124, rfl⟩
abbrev main_call1_v1 : Ref sig .tc := ⟨.hbm, 125, rfl⟩
abbrev main_call1_v2 : Ref sig .tc := ⟨.hbm, 126, rfl⟩
abbrev main_v110 : Ref sig .tc := ⟨.hbm, 127, rfl⟩
abbrev main_v111 : Ref sig .tc := ⟨.hbm, 128, rfl⟩
abbrev main_cst_9 : Ref sig .tc := ⟨.hbm, 129, rfl⟩
abbrev main_call2_v0 : Ref sig .tc := ⟨.hbm, 130, rfl⟩
abbrev main_call2_v1 : Ref sig .tc := ⟨.hbm, 131, rfl⟩
abbrev main_call2_v2 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_call7_call0_cst : Ref sig .tc := ⟨.hbm, 141, rfl⟩
abbrev main_call7_call0_v0 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_cst_10 : Ref sig .tc := ⟨.hbm, 157, rfl⟩
abbrev main_call8_v0 : Ref sig .tc := ⟨.hbm, 158, rfl⟩
abbrev main_call8_v1 : Ref sig .tc := ⟨.hbm, 159, rfl⟩
abbrev main_call8_v2 : Ref sig .tc := ⟨.hbm, 160, rfl⟩
abbrev main_v134 : Ref sig .tc := ⟨.hbm, 161, rfl⟩
abbrev main_v135 : Ref sig .tc := ⟨.hbm, 162, rfl⟩
abbrev main_cst_11 : Ref sig .tc := ⟨.hbm, 163, rfl⟩
abbrev main_call9_v0 : Ref sig .tc := ⟨.hbm, 164, rfl⟩
abbrev main_call9_v1 : Ref sig .tc := ⟨.hbm, 165, rfl⟩
abbrev main_call9_v2 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_cst_12 : Ref sig .tc := ⟨.hbm, 174, rfl⟩
abbrev main_v143 : Ref sig .tc := ⟨.hbm, 175, rfl⟩
abbrev main_v144 : Ref sig .tc := ⟨.hbm, 176, rfl⟩
abbrev main_cst_13 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_cst_14 : Ref sig .tc := ⟨.hbm, 183, rfl⟩
abbrev main_v150 : Ref sig .tc := ⟨.hbm, 184, rfl⟩
abbrev main_v151 : Ref sig .tc := ⟨.hbm, 185, rfl⟩
abbrev main_cst_15 : Ref sig .tc := ⟨.hbm, 186, rfl⟩
abbrev main_v152 : Ref sig .tc := ⟨.hbm, 187, rfl⟩
abbrev main_v153 : Ref sig .tc := ⟨.hbm, 188, rfl⟩
abbrev main_cst_16 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_call11_v0 : Ref sig .tc := ⟨.hbm, 199, rfl⟩
abbrev main_call11_v1 : Ref sig .tc := ⟨.hbm, 200, rfl⟩
abbrev main_call11_cst : Ref sig .tc := ⟨.hbm, 201, rfl⟩
abbrev main_call11_v2 : Ref sig .tc := ⟨.hbm, 202, rfl⟩
abbrev main_call11_v3 : Ref sig .tc := ⟨.hbm, 203, rfl⟩
abbrev main_call11_cst_0 : Ref sig .tc := ⟨.hbm, 204, rfl⟩
abbrev main_call11_v4 : Ref sig .tc := ⟨.hbm, 205, rfl⟩
abbrev main_call11_v5 : Ref sig .tc := ⟨.hbm, 206, rfl⟩
abbrev main_v163 : Ref sig .tc := ⟨.hbm, 207, rfl⟩
abbrev main_v164 : Ref sig .tc := ⟨.hbm, 208, rfl⟩
abbrev main_c : Ref sig .tc := ⟨.hbm, 209, rfl⟩
abbrev main_call12_v0 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩

abbrev nD : Nat := 1
abbrev τ : Topo := Topo.v7x

variable {F : FTy → Type} [FloatOps F]
-- ==== Kernel2.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S512x1024 : Shape := ⟨2, ![512, 1024]⟩
abbrev S1x1024 : Shape := ⟨2, ![1, 1024]⟩
abbrev S1x5632 : Shape := ⟨2, ![1, 5632]⟩
abbrev S16x1024 : Shape := ⟨2, ![16, 1024]⟩
abbrev S1024x512 : Shape := ⟨2, ![1024, 512]⟩
abbrev S16x512 : Shape := ⟨2, ![16, 512]⟩
abbrev S1056x1024 : Shape := ⟨2, ![1056, 1024]⟩
abbrev S1056x512 : Shape := ⟨2, ![1056, 512]⟩
abbrev S1056x1 : Shape := ⟨2, ![1056, 1]⟩
abbrev S1056 : Shape := ⟨1, ![1056]⟩
abbrev S1024x256 : Shape := ⟨2, ![1024, 256]⟩
abbrev S1056x256 : Shape := ⟨2, ![1056, 256]⟩
abbrev S1x256 : Shape := ⟨2, ![1, 256]⟩
abbrev S1024x768 : Shape := ⟨2, ![1024, 768]⟩
abbrev S768x1024 : Shape := ⟨2, ![768, 1024]⟩

abbrev nBuf : Space → Nat
  | .hbm => 19
  | .vmem => 29
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S512x1024, .f32⟩
  | .hbm, ⟨10, _⟩ => ⟨S512x1024, .bf16⟩
  | .hbm, ⟨11, _⟩ => ⟨S512x1024, .f32⟩
  | .hbm, ⟨12, _⟩ => ⟨S512x1024, .bf16⟩
  | .hbm, ⟨13, _⟩ => ⟨S1x1024, .f32⟩
  | .hbm, ⟨14, _⟩ => ⟨S1024x5632, .bf16⟩
  | .hbm, ⟨15, _⟩ => ⟨S1x5632, .f32⟩
  | .hbm, ⟨16, _⟩ => ⟨S2816x1024, .bf16⟩
  | .hbm, ⟨17, _⟩ => ⟨S1x1024, .f32⟩
  | .hbm, ⟨18, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1024x512, .bf16⟩
  | .local _ .vmem, ⟨7, _⟩ => ⟨S1024x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S1024x512, .bf16⟩
  | .local _ .vmem, ⟨13, _⟩ => ⟨S1024x512, .bf16⟩
  | .local _ .vmem, ⟨14, _⟩ => ⟨S16x512, .bf16⟩
  | .local _ .vmem, ⟨15, _⟩ => ⟨S16x512, .bf16⟩
  | .local _ .vmem, ⟨16, _⟩ => ⟨S16x512, .bf16⟩
  | .local _ .vmem, ⟨17, _⟩ => ⟨S16x512, .bf16⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S1024x5632, .bf16⟩
  | .local _ .vmem, ⟨22, _⟩ => ⟨S3x5632, .f32⟩
  | .local _ .vmem, ⟨23, _⟩ => ⟨S1x5632, .f32⟩
  | .local _ .vmem, ⟨24, _⟩ => ⟨S2816x1024, .bf16⟩
  | .local _ .vmem, ⟨25, _⟩ => ⟨S1x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2050x5632 : Shape := ⟨3, ![16, 2050, 5632]⟩
abbrev S1x5632 : Shape := ⟨2, ![1, 5632]⟩
abbrev S1x1x5632 : Shape := ⟨3, ![1, 1, 5632]⟩
abbrev S16x2048x2816 : Shape := ⟨3, ![16, 2048, 2816]⟩

abbrev nBuf : Space → Nat
  | .hbm => 73
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S16x2048x1024, .f32⟩
  | .hbm, ⟨10, _⟩ => ⟨S32768x1024, .bf16⟩
  | .hbm, ⟨11, _⟩ => ⟨S16x2048x1024, .bf16⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S1x1x1024, .f32⟩
  | .hbm, ⟨29, _⟩ => ⟨S16x2048x1024, .f32⟩
  | .hbm, ⟨30, _⟩ => ⟨S16x2048x1024, .f32⟩
  | .hbm, ⟨31, _⟩ => ⟨S16x2048x5632, .f32⟩
  | .hbm, ⟨32, _⟩ => ⟨S_, .i32⟩
  | .hbm, ⟨33, _⟩ => ⟨S_, .f32⟩
  | .hbm, ⟨34, _⟩ => ⟨S16x2050x5632, .f32⟩
  | .hbm, ⟨35, _⟩ => ⟨S16x2048x5632, .f32⟩
  | .hbm, ⟨36, _⟩ => ⟨S1x5632, .f32⟩
  | .hbm, ⟨37, _⟩ => ⟨S5632, .f32⟩
  | .hbm, ⟨38, _⟩ => ⟨S1x1x5632, .f32⟩
  | .hbm, ⟨39, _⟩ => ⟨S16x2048x5632, .f32⟩
  | .hbm, ⟨40, _⟩ => ⟨S16x2048x5632, .f32⟩
  | .hbm, ⟨41, _⟩ => ⟨S1x1x5632, .f32⟩
  | .hbm, ⟨42, _⟩ => ⟨S16x2048x5632, .f32⟩
  | .hbm, ⟨43, _⟩ => ⟨S16x2048x5632, .f32⟩
  | .hbm, ⟨44, _⟩ => ⟨S16x2048x5632, .f32⟩
  | .hbm, ⟨45, _⟩ => ⟨S1x5632, .f32⟩
  | .hbm, ⟨46, _⟩ => ⟨S5632, .f32⟩
  | .hbm, ⟨47, _⟩ => ⟨S1x1x5632, .f32⟩
  | .hbm, ⟨48, _⟩ => ⟨S16x2048x5632, .f32⟩
  | .hbm, ⟨49, _⟩ => ⟨S16x2048x5632, .f32⟩
  | .hbm, ⟨50, _⟩ => ⟨S16x2048x5632, .f32⟩
  | .hbm, ⟨51, _⟩ => ⟨S16x2048x5632, .f32⟩
  | .hbm, ⟨52, _⟩ => ⟨S1x5632, .f32⟩
  | .hbm, ⟨53, _⟩ => ⟨S5632, .f32⟩
  | .hbm, ⟨54, _⟩ => ⟨S1x1x5632, .f32⟩
  | .hbm, ⟨55, _⟩ => ⟨S16x2048x5632, .f32⟩
  | .hbm, ⟨56, _⟩ => ⟨S16x2048x5632, .f32⟩
  | .hbm, ⟨57, _⟩ => ⟨S16x2048x5632, .f32⟩
  | .hbm, ⟨58, _⟩ => ⟨S16x2048x2816, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S_, .f32⟩
  | .hbm, ⟨63, _⟩ => ⟨S16x2048x2816, .f32⟩
  | .hbm, ⟨64, _⟩ => ⟨S16x2048x2816, .f32⟩
  | .hbm, ⟨65, _⟩ => ⟨S_, .f32⟩
  | .hbm, ⟨66, _⟩ => ⟨S16x2048x2816, .f32⟩
  | .hbm, ⟨67, _⟩ => ⟨S16x2048x2816, .f32⟩
  | .hbm, ⟨68, _⟩ => ⟨S16x2048x2816, .f32⟩
  | .hbm, ⟨69, _⟩ => ⟨S16x2048x2816, .f32⟩
  | .hbm, ⟨70, _⟩ => ⟨S16x2048x1024, .f32⟩
  | .hbm, ⟨71, _⟩ => ⟨S16x2048x1024, .f32⟩
  | .hbm, ⟨72, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]
-- ==== Kernel3.lean ====
abbrev S32768x1024 : Shape := ⟨2, ![32768, 1024]⟩
abbrev S32768x256 : Shape := ⟨2, ![32768, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S768x1024 : Shape := ⟨2, ![768, 1024]⟩
abbrev S4x192x1024 : Shape := ⟨3, ![4, 192, 1024]⟩
abbrev S_ : Shape := ⟨0, ![]⟩
abbrev S4x256x1024 : Shape := ⟨3, ![4, 256, 1024]⟩
abbrev S256x1024 : Shape := ⟨2, ![256, 1024]⟩
abbrev S1x1024 : Shape := ⟨2, ![1, 1024]⟩
abbrev S1x5632 : Shape := ⟨2, ![1, 5632]⟩
abbrev S16x1024 : Shape := ⟨2, ![16, 1024]⟩
abbrev S1024x256 : Shape := ⟨2, ![1024, 256]⟩
abbrev S16x256 : Shape := ⟨2, ![16, 256]⟩
abbrev S1056x1024 : Shape := ⟨2, ![1056, 1024]⟩
abbrev S1056x256 : Shape := ⟨2, ![1056, 256]⟩
abbrev S1056x1 : Shape := ⟨2, ![1056, 1]⟩
abbrev S1056 : Shape := ⟨1, ![1056]⟩
abbrev S1x256 : Shape := ⟨2, ![1, 256]⟩
abbrev S1024x768 : Shape := ⟨2, ![1024, 768]⟩
abbrev S1024x1 : Shape := ⟨2, ![1024, 1]⟩

abbrev nBuf : Space → Nat
  | .hbm => 25
  | .vmem => 29
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x256, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S768x1024, .f32⟩
  | .hbm, ⟨11, _⟩ => ⟨S4x192x1024, .f32⟩
  | .hbm, ⟨12, _⟩ => ⟨S_, .i32⟩
  | .hbm, ⟨13, _⟩ => ⟨S_, .f32⟩
  | .hbm, ⟨14, _⟩ => ⟨S4x256x1024, .f32⟩
  | .hbm, ⟨15, _⟩ => ⟨S1024x1024, .f32⟩
  | .hbm, ⟨16, _⟩ => ⟨S1024x1024, .bf16⟩
  | .hbm, ⟨17, _⟩ => ⟨S256x1024, .f32⟩
  | .hbm, ⟨18, _⟩ => ⟨S256x1024, .bf16⟩
  | .hbm, ⟨19, _⟩ => ⟨S1x1024, .f32⟩
  | .hbm, ⟨20, _⟩ => ⟨S1024x5632, .bf16⟩
  | .hbm, ⟨21, _⟩ => ⟨S1x5632, .f32⟩
  | .hbm, ⟨22, _⟩ => ⟨S2816x1024, .bf16⟩
  | .hbm, ⟨23, _⟩ => ⟨S1x1024, .f32⟩
  | .hbm, ⟨24, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1024x1024, .bf16⟩
  | .local _ .vmem, ⟨7, _⟩ => ⟨S1024x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S1024x256, .bf16⟩
  | .local _ .vmem, ⟨13, _⟩ => ⟨S1024x256, .bf16⟩
  | .local _ .vmem, ⟨14, _⟩ => ⟨S16x256, .bf16⟩
  | .local _ .vmem, ⟨15, _⟩ => ⟨S16x256, .bf16⟩
  | .local _ .vmem, ⟨16, _⟩ => ⟨S16x256, .bf16⟩
  | .local _ .vmem, ⟨17, _⟩ => ⟨S16x256, .bf16⟩
  | .local _ .vmem, ⟨18, _⟩ => ⟨S1024x1024, .bf16⟩
  | .local _ .vmem, ⟨19, _⟩ => ⟨S256x1024, .bf16⟩
  | .local _ .vmem, ⟨20, _⟩ => ⟨S1x1024, .f32⟩
  | .local _ .vmem, ⟨21, _⟩ => ⟨S1024x5632, .bf16⟩
  | .local _ .vmem, ⟨22, _⟩ => ⟨S3x5632, .f32⟩
  | .local _ .vmem, ⟨23, _⟩ => ⟨S1x5632, .f32⟩
  | .local _ .vmem, ⟨24, _⟩ => ⟨S2816x1024, .bf16⟩
  | .local _ .vmem, ⟨25, _⟩ => ⟨S1x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S32768x1024 : Shape := ⟨2, ![32768, 1024]⟩
abbrev S32768x256 : Shape := ⟨2, ![32768, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x2048x1024 : Shape := ⟨3, ![16, 2048, 1024]⟩
abbrev S32768x4x256 : Shape := ⟨3, ![32768, 4, 256]⟩
abbrev S32768x4x192 : Shape := ⟨3, ![32768, 4, 192]⟩
abbrev S32768x768 : Shape := ⟨2, ![32768, 768]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2050x5632 : Shape := ⟨3, ![16, 2050, 5632]⟩
abbrev S1x5632 : Shape := ⟨2, ![1, 5632]⟩
abbrev S1x1x5632 : Shape := ⟨3, ![1, 1, 5632]⟩
abbrev S16x2048x2816 : Shape := ⟨3, ![16, 2048, 2816]⟩

abbrev nBuf : Space → Nat
  | .hbm => 93
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x256, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S16x2048x1024, .f32⟩
  | .hbm, ⟨11, _⟩ => ⟨S32768x4x256, .bf16⟩
  | .hbm, ⟨12, _⟩ => ⟨S32768x4x192, .bf16⟩
  | .hbm, ⟨13, _⟩ => ⟨S32768x768, .bf16⟩
  | .hbm, ⟨14, _⟩ => ⟨S32768x1024, .bf16⟩
  | .hbm, ⟨15, _⟩ => ⟨S16x2048x1024, .bf16⟩
  | .hbm, ⟨16, _⟩ => ⟨S16x2048x1024, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S16x2048x1, .f32⟩
  | .hbm, ⟨30, _⟩ => ⟨S16x2048x1024, .f32⟩
  | .hbm, ⟨31, _⟩ => ⟨S16x2048x1024, .f32⟩
  | .hbm, ⟨32, _⟩ => ⟨S1x1x1024, .f32⟩
  | .hbm, ⟨33, _⟩ => ⟨S16x2048x1024, .f32⟩
  | .hbm, ⟨34, _⟩ => ⟨S16x2048x1024, .f32⟩
  | .hbm, ⟨35, _⟩ => ⟨S16x2048x5632, .f32⟩
  | .hbm, ⟨36, _⟩ => ⟨S_, .i32⟩
  | .hbm, ⟨37, _⟩ => ⟨S_, .f32⟩
  | .hbm, ⟨38, _⟩ => ⟨S16x2050x5632, .f32⟩
  | .hbm, ⟨39, _⟩ => ⟨S16x2048x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S16x2048x5632, .f32⟩
  | .hbm, ⟨44, _⟩ => ⟨S16x2048x5632, .f32⟩
  | .hbm, ⟨45, _⟩ => ⟨S1x1x5632, .f32⟩
  | .hbm, ⟨46, _⟩ => ⟨S16x2048x5632, .f32⟩
  | .hbm, ⟨47, _⟩ => ⟨S16x2048x5632, .f32⟩
  | .hbm, ⟨48, _⟩ => ⟨S16x2048x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S16x2048x5632, .f32⟩
  | .hbm, ⟨53, _⟩ => ⟨S16x2048x5632, .f32⟩
  | .hbm, ⟨54, _⟩ => ⟨S16x2048x5632, .f32⟩
  | .hbm, ⟨55, _⟩ => ⟨S16x2048x5632, .f32⟩
  | .hbm, ⟨56, _⟩ => ⟨S1x5632, .f32⟩
  | .hbm, ⟨57, _⟩ => ⟨S5632, .f32⟩
  | .hbm, ⟨58, _⟩ => ⟨S1x1x5632, .f32⟩
  | .hbm, ⟨59, _⟩ => ⟨S16x2048x5632, .f32⟩
  | .hbm, ⟨60, _⟩ => ⟨S16x2048x5632, .f32⟩
  | .hbm, ⟨61, _⟩ => ⟨S16x2048x5632, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S16x2048x2816, .f32⟩
  | .hbm, ⟨66, _⟩ => ⟨S_, .f32⟩
  | .hbm, ⟨67, _⟩ => ⟨S16x2048x2816, .f32⟩
  | .hbm, ⟨68, _⟩ => ⟨S16x2048x2816, .f32⟩
  | .hbm, ⟨69, _⟩ => ⟨S_, .f32⟩
  | .hbm, ⟨70, _⟩ => ⟨S16x2048x2816, .f32⟩
  | .hbm, ⟨71, _⟩ => ⟨S16x2048x2816, .f32⟩
  | .hbm, ⟨72, _⟩ => ⟨S16x2048x2816, .f32⟩
  | .hbm, ⟨73, _⟩ => ⟨S16x2048x2816, .f32⟩
  | .hbm, ⟨74, _⟩ => ⟨S16x2048x1024, .f32⟩
  | .hbm, ⟨75, _⟩ => ⟨S16x2048x1024, .f32⟩
  | .hbm, ⟨76, _⟩ => ⟨S16x2048x1024, .f32⟩
  | .hbm, ⟨77, _⟩ => ⟨S_, .f32⟩
  | .hbm, ⟨78, _⟩ => ⟨S16x2048, .f32⟩
  | .hbm, ⟨79, _⟩ => ⟨S16x2048x1, .f32⟩
  | .hbm, ⟨80, _⟩ => ⟨S_, .f32⟩
  | .hbm, ⟨81, _⟩ => ⟨S16x2048x1, .f32⟩
  | .hbm, ⟨82, _⟩ => ⟨S16x2048x1, .f32⟩
  | .hbm, ⟨83, _⟩ => ⟨S_, .f32⟩
  | .hbm, ⟨84, _⟩ => ⟨S16x2048x1, .f32⟩
  | .hbm, ⟨85, _⟩ => ⟨S16x2048x1, .f32⟩
  | .hbm, ⟨86, _⟩ => ⟨S16x2048x1, .f32⟩
  | .hbm, ⟨87, _⟩ => ⟨S16x2048x1024, .f32⟩
  | .hbm, ⟨88, _⟩ => ⟨S16x2048x1024, .f32⟩
  | .hbm, ⟨89, _⟩ => ⟨S1x1x1024, .f32⟩
  | .hbm, ⟨90, _⟩ => ⟨S16x2048x1024, .f32⟩
  | .hbm, ⟨91, _⟩ => ⟨S16x2048x1024, .f32⟩
  | .hbm, ⟨92, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_2 : Ref sig .tc := ⟨.hbm, 77, rfl⟩
abbrev main_v54 : Ref sig .tc := ⟨.hbm, 78, rfl⟩
abbrev main_v55 : Ref sig .tc := ⟨.hbm, 79, rfl⟩
abbrev main_cst_3 : Ref sig .tc := ⟨.hbm, 80, rfl⟩
abbrev main_v56 : Ref sig .tc := ⟨.hbm, 81, rfl⟩
abbrev main_v57 : Ref sig .tc := ⟨.hbm, 82, rfl⟩
abbrev main_cst_4 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]
-- ==== Kernel4.lean ====
abbrev S32768x1024 : Shape := ⟨2, ![32768, 1024]⟩
abbrev S32768x256 : Shape := ⟨2, ![32768, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S768x1024 : Shape := ⟨2, ![768, 1024]⟩
abbrev S4x192x1024 : Shape := ⟨3, ![4, 192, 1024]⟩
abbrev S_ : Shape := ⟨0, ![]⟩
abbrev S4x256x1024 : Shape := ⟨3, ![4, 256, 1024]⟩
abbrev S256x1024 : Shape := ⟨2, ![256, 1024]⟩
abbrev S1x1024 : Shape := ⟨2, ![1, 1024]⟩
abbrev S1x5632 : Shape := ⟨2, ![1, 5632]⟩
abbrev S16x1024 : Shape := ⟨2, ![16, 1024]⟩
abbrev S1024x256 : Shape := ⟨2, ![1024, 256]⟩
abbrev S16x256 : Shape := ⟨2, ![16, 256]⟩
abbrev S1056x1024 : Shape := ⟨2, ![1056, 1024]⟩
abbrev S1056x256 : Shape := ⟨2, ![1056, 256]⟩
abbrev S1056x1 : Shape := ⟨2, ![1056, 1]⟩
abbrev S1056 : Shape := ⟨1, ![1056]⟩
abbrev S1x256 : Shape := ⟨2, ![1, 256]⟩
abbrev S1024x768 : Shape := ⟨2, ![1024, 768]⟩

abbrev nBuf : Space → Nat
  | .hbm => 25
  | .vmem => 29
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x256, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S768x1024, .f32⟩
  | .hbm, ⟨11, _⟩ => ⟨S4x192x1024, .f32⟩
  | .hbm, ⟨12, _⟩ => ⟨S_, .i32⟩
  | .hbm, ⟨13, _⟩ => ⟨S_, .f32⟩
  | .hbm, ⟨14, _⟩ => ⟨S4x256x1024, .f32⟩
  | .hbm, ⟨15, _⟩ => ⟨S1024x1024, .f32⟩
  | .hbm, ⟨16, _⟩ => ⟨S1024x1024, .bf16⟩
  | .hbm, ⟨17, _⟩ => ⟨S256x1024, .f32⟩
  | .hbm, ⟨18, _⟩ => ⟨S256x1024, .bf16⟩
  | .hbm, ⟨19, _⟩ => ⟨S1x1024, .f32⟩
  | .hbm, ⟨20, _⟩ => ⟨S1024x5632, .bf16⟩
  | .hbm, ⟨21, _⟩ => ⟨S1x5632, .f32⟩
  | .hbm, ⟨22, _⟩ => ⟨S2816x1024, .bf16⟩
  | .hbm, ⟨23, _⟩ => ⟨S1x1024, .f32⟩
  | .hbm, ⟨24, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1024x1024, .bf16⟩
  | .local _ .vmem, ⟨7, _⟩ => ⟨S1024x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S1024x256, .bf16⟩
  | .local _ .vmem, ⟨13, _⟩ => ⟨S1024x256, .bf16⟩
  | .local _ .vmem, ⟨14, _⟩ => ⟨S16x256, .bf16⟩
  | .local _ .vmem, ⟨15, _⟩ => ⟨S16x256, .bf16⟩
  | .local _ .vmem, ⟨16, _⟩ => ⟨S16x256, .bf16⟩
  | .local _ .vmem, ⟨17, _⟩ => ⟨S16x256, .bf16⟩
  | .local _ .vmem, ⟨18, _⟩ => ⟨S1024x1024, .bf16⟩
  | .local _ .vmem, ⟨19, _⟩ => ⟨S256x1024, .bf16⟩
  | .local _ .vmem, ⟨20, _⟩ => ⟨S1x1024, .f32⟩
  | .local _ .vmem, ⟨21, _⟩ => ⟨S1024x5632, .bf16⟩
  | .local _ .vmem, ⟨22, _⟩ => ⟨S3x5632, .f32⟩
  | .local _ .vmem, ⟨23, _⟩ => ⟨S1x5632, .f32⟩
  | .local _ .vmem, ⟨24, _⟩ => ⟨S2816x1024, .bf16⟩
  | .local _ .vmem, ⟨25, _⟩ => ⟨S1x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S32768x1024 : Shape := ⟨2, ![32768, 1024]⟩
abbrev S32768x256 : Shape := ⟨2, ![32768, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x2048x1024 : Shape := ⟨3, ![16, 2048, 1024]⟩
abbrev S32768x4x256 : Shape := ⟨3, ![32768, 4, 256]⟩
abbrev S32768x4x192 : Shape := ⟨3, ![32768, 4, 192]⟩
abbrev S32768x768 : Shape := ⟨2, ![32768, 768]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2050x5632 : Shape := ⟨3, ![16, 2050, 5632]⟩
abbrev S1x5632 : Shape := ⟨2, ![1, 5632]⟩
abbrev S1x1x5632 : Shape := ⟨3, ![1, 1, 5632]⟩
abbrev S16x2048x2816 : Shape := ⟨3, ![16, 2048, 2816]⟩

abbrev nBuf : Space → Nat
  | .hbm => 77
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x256, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S16x2048x1024, .f32⟩
  | .hbm, ⟨11, _⟩ => ⟨S32768x4x256, .bf16⟩
  | .hbm, ⟨12, _⟩ => ⟨S32768x4x192, .bf16⟩
  | .hbm, ⟨13, _⟩ => ⟨S32768x768, .bf16⟩
  | .hbm, ⟨14, _⟩ => ⟨S32768x1024, .bf16⟩
  | .hbm, ⟨15, _⟩ => ⟨S16x2048x1024, .bf16⟩
  | .hbm, ⟨16, _⟩ => ⟨S16x2048x1024, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S16x2048x1, .f32⟩
  | .hbm, ⟨30, _⟩ => ⟨S16x2048x1024, .f32⟩
  | .hbm, ⟨31, _⟩ => ⟨S16x2048x1024, .f32⟩
  | .hbm, ⟨32, _⟩ => ⟨S1x1x1024, .f32⟩
  | .hbm, ⟨33, _⟩ => ⟨S16x2048x1024, .f32⟩
  | .hbm, ⟨34, _⟩ => ⟨S16x2048x1024, .f32⟩
  | .hbm, ⟨35, _⟩ => ⟨S16x2048x5632, .f32⟩
  | .hbm, ⟨36, _⟩ => ⟨S_, .i32⟩
  | .hbm, ⟨37, _⟩ => ⟨S_, .f32⟩
  | .hbm, ⟨38, _⟩ => ⟨S16x2050x5632, .f32⟩
  | .hbm, ⟨39, _⟩ => ⟨S16x2048x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S16x2048x5632, .f32⟩
  | .hbm, ⟨44, _⟩ => ⟨S16x2048x5632, .f32⟩
  | .hbm, ⟨45, _⟩ => ⟨S1x1x5632, .f32⟩
  | .hbm, ⟨46, _⟩ => ⟨S16x2048x5632, .f32⟩
  | .hbm, ⟨47, _⟩ => ⟨S16x2048x5632, .f32⟩
  | .hbm, ⟨48, _⟩ => ⟨S16x2048x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S16x2048x5632, .f32⟩
  | .hbm, ⟨53, _⟩ => ⟨S16x2048x5632, .f32⟩
  | .hbm, ⟨54, _⟩ => ⟨S16x2048x5632, .f32⟩
  | .hbm, ⟨55, _⟩ => ⟨S16x2048x5632, .f32⟩
  | .hbm, ⟨56, _⟩ => ⟨S1x5632, .f32⟩
  | .hbm, ⟨57, _⟩ => ⟨S5632, .f32⟩
  | .hbm, ⟨58, _⟩ => ⟨S1x1x5632, .f32⟩
  | .hbm, ⟨59, _⟩ => ⟨S16x2048x5632, .f32⟩
  | .hbm, ⟨60, _⟩ => ⟨S16x2048x5632, .f32⟩
  | .hbm, ⟨61, _⟩ => ⟨S16x2048x5632, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S16x2048x2816, .f32⟩
  | .hbm, ⟨66, _⟩ => ⟨S_, .f32⟩
  | .hbm, ⟨67, _⟩ => ⟨S16x2048x2816, .f32⟩
  | .hbm, ⟨68, _⟩ => ⟨S16x2048x2816, .f32⟩
  | .hbm, ⟨69, _⟩ => ⟨S_, .f32⟩
  | .hbm, ⟨70, _⟩ => ⟨S16x2048x2816, .f32⟩
  | .hbm, ⟨71, _⟩ => ⟨S16x2048x2816, .f32⟩
  | .hbm, ⟨72, _⟩ => ⟨S16x2048x2816, .f32⟩
  | .hbm, ⟨73, _⟩ => ⟨S16x2048x2816, .f32⟩
  | .hbm, ⟨74, _⟩ => ⟨S16x2048x1024, .f32⟩
  | .hbm, ⟨75, _⟩ => ⟨S16x2048x1024, .f32⟩
  | .hbm, ⟨76, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]
-- ==== Kernel5.lean ====
abbrev S32768x1024 : Shape := ⟨2, ![32768, 1024]⟩
abbrev S1024 : Shape := ⟨1, ![1024]⟩
abbrev S1024x3360 : Shape := ⟨2, ![1024, 3360]⟩
abbrev S1024x256 : Shape := ⟨2, ![1024, 256]⟩
abbrev S1024x512 : Shape := ⟨2, ![1024, 512]⟩
abbrev S1024x16 : Shape := ⟨2, ![1024, 16]⟩
abbrev S_ : Shape := ⟨0, ![]⟩
abbrev S1024x3456 : Shape := ⟨2, ![1024, 3456]⟩
abbrev S1x1024 : Shape := ⟨2, ![1, 1024]⟩
abbrev S32768x3456 : Shape := ⟨2, ![32768, 3456]⟩
abbrev S512x1024 : Shape := ⟨2, ![512, 1024]⟩
abbrev S512x3456 : Shape := ⟨2, ![512, 3456]⟩
abbrev S512 : Shape := ⟨1, ![512]⟩
abbrev S512x1 : Shape := ⟨2, ![512, 1]⟩
abbrev S1024x384 : Shape := ⟨2, ![1024, 384]⟩
abbrev S512x384 : Shape := ⟨2, ![512, 384]⟩

abbrev nBuf : Space → Nat
  | .hbm => 21
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3360, .f32⟩
  | .hbm, ⟨3, _⟩ => ⟨S1024x256, .f32⟩
  | .hbm, ⟨4, _⟩ => ⟨S1024x256, .f32⟩
  | .hbm, ⟨5, _⟩ => ⟨S1024x512, .f32⟩
  | .hbm, ⟨6, _⟩ => ⟨S1024x512, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x512, .f32⟩
  | .hbm, ⟨11, _⟩ => ⟨S1024x512, .f32⟩
  | .hbm, ⟨12, _⟩ => ⟨S1024x16, .f32⟩
  | .hbm, ⟨13, _⟩ => ⟨S1024x16, .f32⟩
  | .hbm, ⟨14, _⟩ => ⟨S1024x3360, .f32⟩
  | .hbm, ⟨15, _⟩ => ⟨S_, .i32⟩
  | .hbm, ⟨16, _⟩ => ⟨S_, .f32⟩
  | .hbm, ⟨17, _⟩ => ⟨S1024x3456, .f32⟩
  | .hbm, ⟨18, _⟩ => ⟨S1024x3456, .bf16⟩
  | .hbm, ⟨19, _⟩ => ⟨S1x1024, .f32⟩
  | .hbm, ⟨20, _⟩ => ⟨S32768x3456, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S512x3456, .f32⟩
  | .local _ .vmem, ⟨5, _⟩ => ⟨S512x3456, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3456 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S32768x1024 : Shape := ⟨2, ![32768, 1024]⟩
abbrev S1024 : Shape := ⟨1, ![1024]⟩
abbrev S1024x3360 : Shape := ⟨2, ![1024, 3360]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3360 : Shape := ⟨3, ![16, 2048, 3360]⟩
abbrev S16x2048x32 : Shape := ⟨3, ![16, 2048, 32]⟩
abbrev S16x2048x1536 : Shape := ⟨3, ![16, 2048, 1536]⟩
abbrev S16x2048x1792 : Shape := ⟨3, ![16, 2048, 1792]⟩
abbrev S16x2048x3328 : Shape := ⟨3, ![16, 2048, 3328]⟩
abbrev S16x2048x96 : Shape := ⟨3, ![16, 2048, 96]⟩
abbrev S16x2048x3456 : Shape := ⟨3, ![16, 2048, 3456]⟩
abbrev S32768x3456 : Shape := ⟨2, ![32768, 3456]⟩

abbrev nBuf : Space → Nat
  | .hbm => 29
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3360, .f32⟩
  | .hbm, ⟨3, _⟩ => ⟨S16x2048x1024, .f32⟩
  | .hbm, ⟨4, _⟩ => ⟨S16x2048x1024, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x1024, .f32⟩
  | .hbm, ⟨16, _⟩ => ⟨S16x2048x1024, .f32⟩
  | .hbm, ⟨17, _⟩ => ⟨S1x1x1024, .f32⟩
  | .hbm, ⟨18, _⟩ => ⟨S16x2048x1024, .f32⟩
  | .hbm, ⟨19, _⟩ => ⟨S16x2048x1024, .f32⟩
  | .hbm, ⟨20, _⟩ => ⟨S16x2048x3360, .f32⟩
  | .hbm, ⟨21, _⟩ => ⟨S16x2048x32, .f32⟩
  | .hbm, ⟨22, _⟩ => ⟨S16x2048x1536, .f32⟩
  | .hbm, ⟨23, _⟩ => ⟨S16x2048x1792, .f32⟩
  | .hbm, ⟨24, _⟩ => ⟨S16x2048x3328, .f32⟩
  | .hbm, ⟨25, _⟩ => ⟨S_, .f32⟩
  | .hbm, ⟨26, _⟩ => ⟨S16x2048x96, .f32⟩
  | .hbm, ⟨27, _⟩ => ⟨S16x2048x3456, .f32⟩
  | .hbm, ⟨28, _⟩ => ⟨S32768x3456, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel6.lean ====
abbrev S32768x1024 : Shape := ⟨2, ![32768, 1024]⟩
abbrev S1024 : Shape := ⟨1, ![1024]⟩
abbrev S1024x2816 : Shape := ⟨2, ![1024, 2816]⟩
abbrev S1024x1024 : Shape := ⟨2, ![1024, 1024]⟩
abbrev S1024x768 : Shape := ⟨2, ![1024, 768]⟩
abbrev S1024x4x192 : Shape := ⟨3, ![1024, 4, 192]⟩
abbrev S_ : Shape := ⟨0, ![]⟩
abbrev S1024x4x256 : Shape := ⟨3, ![1024, 4, 256]⟩
abbrev S1024x256 : Shape := ⟨2, ![1024, 256]⟩
abbrev S1024x3328 : Shape := ⟨2, ![1024, 3328]⟩
abbrev S1x1024 : Shape := ⟨2, ![1, 1024]⟩
abbrev S32768x3328 : Shape := ⟨2, ![32768, 3328]⟩
abbrev S512x1024 : Shape := ⟨2, ![512, 1024]⟩
abbrev S512x3328 : Shape := ⟨2, ![512, 3328]⟩
abbrev S512 : Shape := ⟨1, ![512]⟩
abbrev S512x1 : Shape := ⟨2, ![512, 1]⟩
abbrev S512x256 : Shape := ⟨2, ![512, 256]⟩

abbrev nBuf : Space → Nat
  | .hbm => 21
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x1024, .f32⟩
  | .hbm, ⟨4, _⟩ => ⟨S1024x768, .f32⟩
  | .hbm, ⟨5, _⟩ => ⟨S1024x4x192, .f32⟩
  | .hbm, ⟨6, _⟩ => ⟨S_, .i32⟩
  | .hbm, ⟨7, _⟩ => ⟨S_, .f32⟩
  | .hbm, ⟨8, _⟩ => ⟨S1024x4x256, .f32⟩
  | .hbm, ⟨9, _⟩ => ⟨S1024x1024, .f32⟩
  | .hbm, ⟨10, _⟩ => ⟨S1024x768, .f32⟩
  | .hbm, ⟨11, _⟩ => ⟨S1024x4x192, .f32⟩
  | .hbm, ⟨12, _⟩ => ⟨S_, .i32⟩
  | .hbm, ⟨13, _⟩ => ⟨S_, .f32⟩
  | .hbm, ⟨14, _⟩ => ⟨S1024x4x256, .f32⟩
  | .hbm, ⟨15, _⟩ => ⟨S1024x1024, .f32⟩
  | .hbm, ⟨16, _⟩ => ⟨S1024x256, .f32⟩
  | .hbm, ⟨17, _⟩ => ⟨S1024x3328, .f32⟩
  | .hbm, ⟨18, _⟩ => ⟨S1024x3328, .bf16⟩
  | .hbm, ⟨19, _⟩ => ⟨S1x1024, .f32⟩
  | .hbm, ⟨20, _⟩ => ⟨S32768x3328, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3328, .bf16⟩
  | .local _ .vmem, ⟨4, _⟩ => ⟨S512x3328, .f32⟩
  | .local _ .vmem, ⟨5, _⟩ => ⟨S512x3328, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3328 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S32768x1024 : Shape := ⟨2, ![32768, 1024]⟩
abbrev S1024 : Shape := ⟨1, ![1024]⟩
abbrev S1024x2816 : Shape := ⟨2, ![1024, 2816]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2816 : Shape := ⟨3, ![16, 2048, 2816]⟩
abbrev S16x2048x768 : Shape := ⟨3, ![16, 2048, 768]⟩
abbrev S16x2048x4x192 : Shape := ⟨4, ![16, 2048, 4, 192]⟩
abbrev S16x2048x4x64 : Shape := ⟨4, ![16, 2048, 4, 64]⟩
abbrev S16x2048x4x256 : Shape := ⟨4, ![16, 2048, 4, 256]⟩
abbrev S16x2048x256 : Shape := ⟨3, ![16, 2048, 256]⟩
abbrev S16x2048x3328 : Shape := ⟨3, ![16, 2048, 3328]⟩
abbrev S32768x3328 : Shape := ⟨2, ![32768, 3328]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S16x2048x1024, .f32⟩
  | .hbm, ⟨4, _⟩ => ⟨S16x2048x1024, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x1024, .f32⟩
  | .hbm, ⟨16, _⟩ => ⟨S16x2048x1024, .f32⟩
  | .hbm, ⟨17, _⟩ => ⟨S1x1x1024, .f32⟩
  | .hbm, ⟨18, _⟩ => ⟨S16x2048x1024, .f32⟩
  | .hbm, ⟨19, _⟩ => ⟨S16x2048x1024, .f32⟩
  | .hbm, ⟨20, _⟩ => ⟨S16x2048x2816, .f32⟩
  | .hbm, ⟨21, _⟩ => ⟨S16x2048x768, .f32⟩
  | .hbm, ⟨22, _⟩ => ⟨S16x2048x4x192, .f32⟩
  | .hbm, ⟨23, _⟩ => ⟨S16x2048x768, .f32⟩
  | .hbm, ⟨24, _⟩ => ⟨S16x2048x4x192, .f32⟩
  | .hbm, ⟨25, _⟩ => ⟨S_, .f32⟩
  | .hbm, ⟨26, _⟩ => ⟨S16x2048x4x64, .f32⟩
  | .hbm, ⟨27, _⟩ => ⟨S16x2048x1024, .f32⟩
  | .hbm, ⟨28, _⟩ => ⟨S16x2048x4x256, .f32⟩
  | .hbm, ⟨29, _⟩ => ⟨S16x2048x1024, .f32⟩
  | .hbm, ⟨30, _⟩ => ⟨S16x2048x4x256, .f32⟩
  | .hbm, ⟨31, _⟩ => ⟨S16x2048x1024, .f32⟩
  | .hbm, ⟨32, _⟩ => ⟨S16x2048x256, .f32⟩
  | .hbm, ⟨33, _⟩ => ⟨S16x2048x3328, .f32⟩
  | .hbm, ⟨34, _⟩ => ⟨S32768x3328, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel7.lean ====
abbrev S32768x256 : Shape := ⟨2, ![32768, 256]⟩
abbrev S32768x3328 : Shape := ⟨2, ![32768, 3328]⟩
abbrev S256 : Shape := ⟨1, ![256]⟩
abbrev S256x256 : Shape := ⟨2, ![256, 256]⟩
abbrev S1x256 : Shape := ⟨2, ![1, 256]⟩
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S32768x256, .f32⟩
  | .hbm, ⟨1, _⟩ => ⟨S32768x3328, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S256x256, .bf16⟩
  | .hbm, ⟨7, _⟩ => ⟨S1x256, .f32⟩
  | .hbm, ⟨8, _⟩ => ⟨S32768x256, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S256x256, .bf16⟩
  | .local _ .vmem, ⟨6, _⟩ => ⟨S1x256, .f32⟩
  | .local _ .vmem, ⟨7, _⟩ => ⟨S512x256, .bf16⟩
  | .local _ .vmem, ⟨8, _⟩ => ⟨S512x256, .bf16⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S32768x256 : Shape := ⟨2, ![32768, 256]⟩
abbrev S32768x3328 : Shape := ⟨2, ![32768, 3328]⟩
abbrev S256 : Shape := ⟨1, ![256]⟩
abbrev S256x256 : Shape := ⟨2, ![256, 256]⟩
abbrev S16x2048x3328 : Shape := ⟨3, ![16, 2048, 3328]⟩
abbrev S16x2048x256 : Shape := ⟨3, ![16, 2048, 256]⟩
abbrev S1x1x256 : Shape := ⟨3, ![1, 1, 256]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x3328, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S16x2048x3328, .f32⟩
  | .hbm, ⟨6, _⟩ => ⟨S16x2048x256, .f32⟩
  | .hbm, ⟨7, _⟩ => ⟨S16x2048x256, .f32⟩
  | .hbm, ⟨8, _⟩ => ⟨S1x1x256, .f32⟩
  | .hbm, ⟨9, _⟩ => ⟨S16x2048x256, .f32⟩
  | .hbm, ⟨10, _⟩ => ⟨S16x2048x256, .f32⟩
  | .hbm, ⟨11, _⟩ => ⟨S16x2048x256, .f32⟩
  | .hbm, ⟨12, _⟩ => ⟨S16x2048x256, .f32⟩
  | .hbm, ⟨13, _⟩ => ⟨S16x2048x256, .f32⟩
  | .hbm, ⟨14, _⟩ => ⟨S_, .f32⟩
  | .hbm, ⟨15, _⟩ => ⟨S16x2048x256, .f32⟩
  | .hbm, ⟨16, _⟩ => ⟨S16x2048x256, .f32⟩
  | .hbm, ⟨17, _⟩ => ⟨S16x2048x256, .f32⟩
  | .hbm, ⟨18, _⟩ => ⟨S_, .f32⟩
  | .hbm, ⟨19, _⟩ => ⟨S16x2048x256, .f32⟩
  | .hbm, ⟨20, _⟩ => ⟨S16x2048x256, .f32⟩
  | .hbm, ⟨21, _⟩ => ⟨S16x2048x256, .f32⟩
  | .hbm, ⟨22, _⟩ => ⟨S_, .f32⟩
  | .hbm, ⟨23, _⟩ => ⟨S16x2048x256, .f32⟩
  | .hbm, ⟨24, _⟩ => ⟨S16x2048x256, .f32⟩
  | .hbm, ⟨25, _⟩ => ⟨S_, .f32⟩
  | .hbm, ⟨26, _⟩ => ⟨S16x2048x256, .f32⟩
  | .hbm, ⟨27, _⟩ => ⟨S16x2048x256, .f32⟩
  | .hbm, ⟨28, _⟩ => ⟨S16x2048x256, .f32⟩
  | .hbm, ⟨29, _⟩ => ⟨S16x2048x256, .f32⟩
  | .hbm, ⟨30, _⟩ => ⟨S1x1x256, .f32⟩
  | .hbm, ⟨31, _⟩ => ⟨S16x2048x256, .f32⟩
  | .hbm, ⟨32, _⟩ => ⟨S16x2048x256, .f32⟩
  | .hbm, ⟨33, _⟩ => ⟨S16x2048x256, .f32⟩
  | .hbm, ⟨34, _⟩ => ⟨S16x2048x256, .f32⟩
  | .hbm, ⟨35, _⟩ => ⟨S_, .f32⟩
  | .hbm, ⟨36, _⟩ => ⟨S16x2048x256, .f32⟩
  | .hbm, ⟨37, _⟩ => ⟨S16x2048x256, .f32⟩
  | .hbm, ⟨38, _⟩ => ⟨S_, .f32⟩
  | .hbm, ⟨39, _⟩ => ⟨S16x2048x256, .f32⟩
  | .hbm, ⟨40, _⟩ => ⟨S16x2048x256, .f32⟩
  | .hbm, ⟨41, _⟩ => ⟨S16x2048x256, .f32⟩
  | .hbm, ⟨42, _⟩ => ⟨S32768x256, .f32⟩
  | .hbm, ⟨43, _⟩ => ⟨S32768x256, .bf16⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.KI.Frame.lean ====
/-
  Hand-written. The frame of `KernelIdeal`: at every grid point the body is run once, its three loops by their generated
  invariants; what it leaves in the result's block is not named here, and the scratch holds anything between points.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The body -/

set_option maxHeartbeats 4000000 in
/-- The kernel body once, for any continuation: from the eight input blocks at their contents and the output block and
    the twelve scratch buffers at any, it runs to its return, the three loops by their generated invariants, and hands
    the inputs back as they were and the output and the scratch at some contents. -/
theorem body_run (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x2x256 .f32) (harg8 : arg8.IsWhole) (arg9 : Memref sig .tc .vmem S1x1x256 .f32) (harg9 : arg9.IsWhole) (arg10 : Memref sig .tc .vmem S1x2048x256 .bf16) (harg10 : arg10.IsWhole)
    (d2 : S1x2048x128.Idx → Elt F .f32) (d3 : S1x2048x128.Idx → Elt F .f32) (d4 : S1x2048x256.Idx → Elt F .f32) (d5 : S1x2048x256.Idx → Elt F .f32) (d6 : S2048x128.Idx → Elt F .f32) (d7 : S2048x128.Idx → Elt F .f32) (d8 : S1x2x256.Idx → Elt F .f32) (d9 : S1x1x256.Idx → Elt F .f32) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ (∃ d, owns (c : Thread nD τ) arg10 fullShare d)
        ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d)
        ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ (∃ d, owns (c : Thread nD τ) arg10 fullShare d)
            ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d)) -∗ K ⟨⟩))
      ⊢ wp frame (wpE (defs₀ (F := F)) Variants.none c none) Set.univ
          (cc0_retention_mixer i arg2 harg2 arg3 harg3 arg4 harg4 arg5 harg5 arg6 harg6 arg7 harg7 arg8 harg8 arg9 harg9 arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _)) K := by
  simp only [cc0_retention_mixer_eq_skeleton]; unfold cc0_retention_mixer_skel
  simp only [k0_part6_eq_skeleton, k0_part7_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  sl_exec
  sl_step
  iapply Hk
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  isplitl [H7]; · iexists _; isplitr; swap; (· iexact H7); ipureintro; exact hf7
  isplitl [H8]; · iexists _; isplitr; swap; (· iexact H8); ipureintro; exact hf8
  isplitl [H9]; · iexists _; isplitr; swap; (· iexact H9); ipureintro; exact hf9
  isplitl [H10]; · iexists _, _; isplitr; swap; (· iexact H10); ipureintro; rfl
  isplitl [H11]; · iexists _, _; isplitr; swap; (· iexact H11); ipureintro; rfl
  isplitl [H12]; · iexists _, _; isplitr; swap; (· iexact H12); ipureintro; rfl
  isplitl [H13]; · iexists _, _; isplitr; swap; (· iexact H13); ipureintro; rfl
  isplitl [H14]; · iexists _, _; isplitr; swap; (· iexact H14); ipureintro; rfl
  isplitl [H15]; · iexists _, _; isplitr; swap; (· iexact H15); ipureintro; rfl
  isplitl [H16]; · iexists _, _; isplitr; swap; (· iexact H16); ipureintro; rfl
  isplitl [H17]; · iexists _, _; isplitr; swap; (· iexact H17); ipureintro; rfl
  isplitl [H18]; · iexists _, _; isplitr; swap; (· iexact H18); ipureintro; rfl
  isplitl [H19]; · iexists _, _; isplitr; swap; (· iexact H19); ipureintro; rfl
  isplitl [H20]; · iexists _, _; isplitr; swap; (· iexact H20); ipureintro; rfl
  isplitl [H21]; · iexists _, _; isplitr; swap; (· iexact H21); ipureintro; rfl
  iexists _, _; isplitr; swap; (· iexact H22); ipureintro; rfl

/-! ## The proof data and the body obligation -/

/-- Only the result's window is forgotten. -/
def forgets : Fin 9 → Bool := ![false, false, false, false, false, false, false, false, true]

/-- The proof data on core `c`: each array as the region finds it; the body leaves an input's block in place and the
    result's block unnamed; between the points the scratch holds anything; the projection's four windows read one array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t
    | ⟨4, _⟩ => iblk m c 4 t | ⟨5, _⟩ => iblk m c 5 t | ⟨6, _⟩ => iblk m c 6 t | ⟨7, _⟩ => iblk m c 7 t
    | ⟨8, h⟩ => Pipeline.Dat.unnamed (cfg := cfg0) ⟨8, h⟩ t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is called with at point `t`: the invariant, nothing owed, each input's buffer at what the pipeline
    put there, the result's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare d))

theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, after_0, before_1, after_1, before_2, after_2, before_3, after_3, before_4, after_4, before_5, after_5, before_6, after_6, before_7, after_7]
  rw [show (dats m 0 c).Φ t.castSucc = Pipeline.ΦA spec0 c from rfl, show (dats m 0 c).Φ t.succ = Pipeline.ΦA spec0 c from rfl,
    show (dats m 0 c).owesAt () t.castSucc = (dats m 0 c).owesAt () t.succ from rfl]
  unfold Pipeline.ΦA
  rw [scopedRest0_eq]
  simp only [← owns_whole]
  iintro ⟨⟨⟨S11, S12, S13, S14, S15, S16, S17, S18, S19, S20, S21, S22⟩, Hr⟩, HO, ⟨%e0, H0⟩, ⟨%e1, H1⟩, ⟨%e2, H2⟩, ⟨%e3, H3⟩, ⟨%e4, H4⟩, ⟨%e5, H5⟩, ⟨%e6, H6⟩, ⟨%e7, H7⟩, H8⟩
  iapply (body_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8))
    (iblk m c 0 t) (iblk m c 1 t) (iblk m c 2 t) (iblk m c 3 t) (iblk m c 4 t) (iblk m c 5 t) (iblk m c 6 t) (iblk m c 7 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  iintro ⟨H0, H1, H2, H3, H4, H5, H6, H7, H8, S11, S12, S13, S14, S15, S16, S17, S18, S19, S20, S21, S22⟩
  iframe

theorem body_obligation (c : Dev nD) :
    Pipeline.BodyObligationLoose (dats (F := F) m 0 c) (defs₀ (F := F)) Variants.none () Set.univ forgets := fun t => by
  rw [bigSep_W0, bigSep_W0]
  exact body_sound m c t

/-! ## The run -/

set_option backward.isDefEq.respectTransparency.types false in
/-- Every fair execution of @main terminates, the arguments as they were and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = (fun _ => 0)) :=
  Pipeline.θ_run_frame_forget_shared cfgs (dats m) (0 : Fin 1) launch₀0 defs₀ Variants.none forgets m ρ main
    (hbody := body_obligation m) (hq := fun _ _ _ => rfl) (howed := fun _ _ => rfl) (V := V m)
    (hmain := hmain m Variants.none) (hA := fun _ _ => rfl) (hΦ := fun _ _ => rfl)
    (Q' := _) (hQ' := fun r h => ⟨fun c =>
      ⟨(h.1.arr_in c 3 rfl).trans (V_main_arg0 m c),
       ((h.1 c).2 main_arg1 (Pipeline.mem_restRefs_of main_arg1 (by decide) (by decide))).trans (V_main_arg1 m c)⟩, h.2⟩)

end Cert.KernelIdeal.Hand

end
-- ==== Proof.Ffn.Spec.lean ====
/- The output projection with its residual, the normalisation and the convolutional feed-forward block, at coordinates:
   what row `n` of the token array becomes, over the extended reals. Both programs are compared with these functions. -/
module

public import Idealize.ShloMosaic.Lib.Pipeline.ValueKit

@[expose] public section

noncomputable section

namespace Cert.Ffn

open Idealize.ShloMosaic

/-- The arguments of the call in the even layers: the token rows, the two mixers' rows, the output projection, the norm's gain, the
    widening weights, the convolution's three taps and its bias, the narrowing weights. -/
structure Args where
  x : FVec Ideal ⟨2, ![32768, 1024]⟩ .f32
  ya : FVec Ideal ⟨2, ![32768, 512]⟩ .bf16
  yb : FVec Ideal ⟨2, ![32768, 512]⟩ .bf16
  wo : FVec Ideal ⟨2, ![1024, 1024]⟩ .f32
  g : FVec Ideal ⟨1, ![1024]⟩ .f32
  wup : FVec Ideal ⟨2, ![1024, 5632]⟩ .f32
  cw : FVec Ideal ⟨2, ![3, 5632]⟩ .f32
  cb : FVec Ideal ⟨1, ![5632]⟩ .f32
  wdn : FVec Ideal ⟨2, ![2816, 1024]⟩ .f32

/-- The normalised entry: `v` over the root of its row's mean square, times the gain. -/
def rms (row : Fin 1024 → EReal) (v g : EReal) : EReal :=
  v * Ideal.rsqrt (Ideal.div (∑ k, row k * row k) (Ideal.ofBits .f32 0x44800000#32) + Ideal.ofBits .f32 0x358637BD#32) * g

/-- `v` times its logistic. -/
def silu (v : EReal) : EReal := v * Ideal.div 1 (1 + Ideal.exp (-v))

/-- The feed-forward block's own operands: the residual rows that enter it, the norm's gain, the widening weights, the
    convolution's three taps and its bias, the narrowing weights. -/
structure Block where
  res : Fin 32768 → Fin 1024 → EReal
  g : FVec Ideal ⟨1, ![1024]⟩ .f32
  wup : FVec Ideal ⟨2, ![1024, 5632]⟩ .f32
  cw : FVec Ideal ⟨2, ![3, 5632]⟩ .f32
  cb : FVec Ideal ⟨1, ![5632]⟩ .f32
  wdn : FVec Ideal ⟨2, ![2816, 1024]⟩ .f32

/-- The residual after the output projection. -/
def x1 (a : Args) (n : Fin 32768) (c : Fin 1024) : EReal :=
  a.x (ix2 n c) + (∑ e : Fin 512, a.ya (ix2 n e) * a.wo (ix2 ⟨e, by omega⟩ c)
    + ∑ e : Fin 512, a.yb (ix2 n e) * a.wo (ix2 ⟨512 + e, by omega⟩ c))

/-- The feed-forward block behind that residual. -/
def Args.block (a : Args) : Block := ⟨x1 a, a.g, a.wup, a.cw, a.cb, a.wdn⟩

/-- The normalised row. -/
def hn (a : Block) (n : Fin 32768) (d : Fin 1024) : EReal := rms (a.res n) (a.res n d) (a.g (ix1 d))

/-- The widened row. -/
def up (a : Block) (n : Fin 32768) (f : Fin 5632) : EReal := ∑ d : Fin 1024, hn a n d * a.wup (ix2 d f)

/-- The widened row before row `n` of the same sequence, zero before the first. -/
def upPrev (a : Block) (n : Fin 32768) (f : Fin 5632) : EReal :=
  if n.val % 2048 = 0 then 0 else up a ⟨n.val - 1, by omega⟩ f

/-- The widened row after row `n` of the same sequence, zero after the last. -/
def upNext (a : Block) (n : Fin 32768) (f : Fin 5632) : EReal :=
  if h : n.val % 2048 = 2047 then 0 else up a ⟨n.val + 1, by omega⟩ f

/-- The three-tap convolution along the sequence. -/
def conv (a : Block) (n : Fin 32768) (f : Fin 5632) : EReal :=
  a.cb (ix1 f) + upPrev a n f * a.cw (ix2 0 f) + up a n f * a.cw (ix2 1 f) + upNext a n f * a.cw (ix2 2 f)

/-- The gated activation. -/
def act (a : Block) (n : Fin 32768) (f : Fin 2816) : EReal :=
  silu (conv a n ⟨f, by omega⟩) * conv a n ⟨2816 + f, by omega⟩

/-- The result row. -/
def out (a : Block) (n : Fin 32768) (c : Fin 1024) : EReal :=
  a.res n c + ∑ f : Fin 2816, act a n f * a.wdn (ix2 f c)

end Cert.Ffn

end
-- ==== Proof.Ffn.Tile.lean ====
/- The feed-forward kernel's tile: its vector operations as named stages, each stage at coordinates. -/
module

public import proofs.«01_k».proof.Proof.Gen.Kernel2Ideal.Skeleton
public import proofs.«01_k».proof.Proof.Ffn.Spec

@[expose] public section

set_option maxRecDepth 16384

noncomputable section

namespace Cert.Kernel2Ideal.Value

open Cert.Kernel2Ideal Cert.Kernel2Ideal.Gen Idealize.ShloMosaic Idealize.SL.Sem

section Stages
variable {F : FTy → Type} [FloatOps F]

/-- The residual after the output projection, over the rows `x` with the two mixers' rows `ya` and `yb`. -/
def resT (x : FVec F S1056x1024 .f32) (ya : FVec F S1056x512 .bf16) (wa : FVec F S512x1024 .bf16) (yb : FVec F S1056x512 .bf16)
    (wb : FVec F S512x1024 .bf16) : FVec F S1056x1024 .f32 :=
  addf (addf x (matmul dot_S1056x512_S512x1024_S1056x1024_1_0_0_1_n_n none ya (shapeCast S512x1024 wa shapeCasts_S512x1024_S512x1024)
      (constant S1056x1024 .f32 0x00000000#32)))
    (matmul dot_S1056x512_S512x1024_S1056x1024_1_0_0_1_n_n none yb (shapeCast S512x1024 wb shapeCasts_S512x1024_S512x1024)
      (constant S1056x1024 .f32 0x00000000#32))

/-- The rows that lie in another sequence than the tile's. -/
def outsideT (first last : BitVec 1) : IVec S1056x1 1 :=
  ori (andi (cmpi .slt (iota .tc S1056x1 32 [0] iota_S1056x1_d0_w32) (broadcast S1056x1 16#32)) (broadcast S1056x1 first))
    (andi (cmpi .sge (iota .tc S1056x1 32 [0] iota_S1056x1_d0_w32) (broadcast S1056x1 1040#32)) (broadcast S1056x1 last))

/-- The normalised rows. -/
def normT (x : FVec F S1056x1024 .f32) (g : FVec F S1x1024 .f32) : FVec F S1056x1024 .f32 :=
  mulf (mulf x (broadcastTo S1056x1024 (rsqrt (addf (divf (shapeCast S1056x1
      (multiReduction .add [1] S1056 (mulf x x) 0x00000000#32 reduces_S1056x1024_S1056 (.inl rfl) rfl) shapeCasts_S1056_S1056x1)
      (broadcast S1056x1 (Scalar.ofBits .f32 0x44800000#32))) (broadcast S1056x1 (Scalar.ofBits .f32 0x358637BD#32))))
      broadcasts_S1056x1_S1056x1024))
    (broadcastTo S1056x1024 (shapeCast S1x1024 g shapeCasts_S1x1024_S1x1024) broadcasts_S1x1024_S1056x1024)

/-- The normalised rows, zero where `o` says outside. -/
def maskT (o : IVec S1056x1 1) (x : FVec F S1056x1024 .f32) : FVec F S1056x1024 .bf16 :=
  truncf .bf16 (select (broadcastTo S1056x1024 (shapeCast S1056x1 o shapeCasts_S1056x1_S1056x1) broadcasts_S1056x1_S1056x1024)
    (broadcast S1056x1024 (Scalar.ofBits .f32 0x00000000#32)) x) bitsLt_bf16_f32

/-- The widened rows in 256 columns. -/
def upT (h : FVec F S1056x1024 .bf16) (w : FVec F S1024x256 .bf16) : FVec F S1056x256 .f32 :=
  matmul dot_S1056x1024_S1024x256_S1056x256_1_0_0_1_n_n none h (shapeCast S1024x256 w shapeCasts_S1024x256_S1024x256)
    (constant S1056x256 .f32 0x00000000#32)

/-- The convolution of widened rows `u`: the row before by one rotation, the row after by another. -/
def tapsT (u : FVec F S1056x256 .f32) (b c0 c1 c2 : FVec F S1x256 .f32) : FVec F S1024x256 .f32 :=
  addf (addf (addf (broadcastTo S1024x256 (shapeCast S1x256 b shapeCasts_S1x256_S1x256) broadcasts_S1x256_S1024x256)
      (mulf (extractStridedSlice S1024x256 ![16, 0] (dynamicRotate 0 1#32 none u rotates_S1056x256_d0) slices_S1056x256_o16_0_S1024x256)
        (broadcastTo S1024x256 c0 broadcasts_S1x256_S1024x256)))
      (mulf (extractStridedSlice S1024x256 ![16, 0] u slices_S1056x256_o16_0_S1024x256)
        (broadcastTo S1024x256 c1 broadcasts_S1x256_S1024x256)))
    (mulf (extractStridedSlice S1024x256 ![16, 0] (dynamicRotate 0 1055#32 none u rotates_S1056x256_d0) slices_S1056x256_o16_0_S1024x256)
      (broadcastTo S1024x256 c2 broadcasts_S1x256_S1024x256))

/-- The convolution of 256 widened columns. -/
def convT (h : FVec F S1056x1024 .bf16) (w : FVec F S1024x256 .bf16) (b c0 c1 c2 : FVec F S1x256 .f32) : FVec F S1024x256 .f32 :=
  tapsT (upT h w) b c0 c1 c2

/-- The gated activation of two convolved tiles. -/
def gateT (c d : FVec F S1024x256 .f32) : FVec F S1024x256 .bf16 :=
  shapeCast S1024x256 (truncf .bf16 (mulf (mulf c (divf (broadcast S1024x256 (Scalar.ofBits .f32 0x3F800000#32))
    (addf (broadcast S1024x256 (Scalar.ofBits .f32 0x3F800000#32))
      (exp (subf (broadcast S1024x256 (Scalar.ofBits .f32 0x00000000#32)) c))))) d) bitsLt_bf16_f32) shapeCasts_S1024x256_S1024x256

theorem pay4_eq (x : FVec F S1056x1024 .f32) (ya : FVec F S1056x512 .bf16) (wa : FVec F S512x1024 .bf16) (p n : FVec F S16x512 .bf16)
    (q : FVec F S1024x512 .bf16) (wb : FVec F S512x1024 .bf16) :
    k0_pay4 x ya wa p q n wb = resT x ya wa (k0_pay3 p q n) wb := rfl

theorem pay5_eq (first last : BitVec 1) (x : FVec F S1056x1024 .f32) (ya : FVec F S1056x512 .bf16) (wa : FVec F S512x1024 .bf16)
    (p n : FVec F S16x512 .bf16) (q : FVec F S1024x512 .bf16) (wb : FVec F S512x1024 .bf16) (g : FVec F S1x1024 .f32) :
    k0_pay5 first last x ya wa p q n wb g = maskT (outsideT first last) (normT (resT x ya wa (k0_pay3 p q n) wb) g) := rfl

end Stages

/-! ## The stages at coordinates -/

theorem pay2_at (p n : FVec Ideal S16x1024 .f32) (q : FVec Ideal S1024x1024 .f32) (e : Fin 1056) (c : Fin 1024) :
    k0_pay2 p q n (ix2 e c) = if h : e.val < 16 then p (ix2 ⟨e, h⟩ c) else if h' : e.val < 1040 then q (ix2 ⟨e - 16, by omega⟩ c)
      else n (ix2 ⟨e - 1040, by omega⟩ c) := by
  pointwise [k0_pay2]
  by_cases h : e.val < 16
  · rw [dif_pos h, dif_pos h]
  · rw [dif_neg h, dif_neg h]
    by_cases h' : e.val < 1040
    · rw [dif_pos h', dif_pos (by omega)]
    · rw [dif_neg h', dif_neg (by omega)]
      exact congrArg (fun i => n (ix2 i c)) (Fin.ext (by simp only; omega))

theorem pay3_at (p n : FVec Ideal S16x512 .bf16) (q : FVec Ideal S1024x512 .bf16) (e : Fin 1056) (c : Fin 512) :
    k0_pay3 p q n (ix2 e c) = if h : e.val < 16 then p (ix2 ⟨e, h⟩ c) else if h' : e.val < 1040 then q (ix2 ⟨e - 16, by omega⟩ c)
      else n (ix2 ⟨e - 1040, by omega⟩ c) := by
  pointwise [k0_pay3]
  by_cases h : e.val < 16
  · rw [dif_pos h, dif_pos h]
  · rw [dif_neg h, dif_neg h]
    by_cases h' : e.val < 1040
    · rw [dif_pos h', dif_pos (by omega)]
    · rw [dif_neg h', dif_neg (by omega)]
      exact congrArg (fun i => n (ix2 i c)) (Fin.ext (by simp only; omega))

theorem resT_at (x : FVec Ideal S1056x1024 .f32) (ya : FVec Ideal S1056x512 .bf16) (wa : FVec Ideal S512x1024 .bf16) (yb : FVec Ideal S1056x512 .bf16)
    (wb : FVec Ideal S512x1024 .bf16) (e : Fin 1056) (c : Fin 1024) :
    resT x ya wa yb wb (ix2 e c) = x (ix2 e c) + (∑ k : Fin 512, ya (ix2 e k) * wa (ix2 k c) + ∑ k : Fin 512, yb (ix2 e k) * wb (ix2 k c)) := by
  pointwise [resT]
  exact add_assoc _ _ _

theorem outsideT_at (first last : BitVec 1) (e : Fin 1056) :
    outsideT first last (ix2 e 0) = if e.val < 16 then first else if e.val < 1040 then 0#1 else last := by
  revert first last
  decide +revert +kernel

theorem normT_at (x : FVec Ideal S1056x1024 .f32) (g : FVec Ideal S1x1024 .f32) (e : Fin 1056) (c : Fin 1024) :
    normT x g (ix2 e c) = Cert.Ffn.rms (fun k => x (ix2 e k)) (x (ix2 e c)) (g (ix2 0 c)) := by
  pointwise [normT, Cert.Ffn.rms]

theorem maskT_at (o : IVec S1056x1 1) (x : FVec Ideal S1056x1024 .f32) (e : Fin 1056) (c : Fin 1024) :
    maskT o x (ix2 e c) = if o (ix2 e 0) = 1#1 then 0 else x (ix2 e c) := by
  pointwise [maskT]
  unfold Scalar.select
  by_cases h : o (ix2 e 0) = 1#1
  · exact (if_pos h).trans (if_pos h).symm
  · exact (if_neg h).trans (if_neg h).symm

theorem upT_at (h : FVec Ideal S1056x1024 .bf16) (w : FVec Ideal S1024x256 .bf16) (e : Fin 1056) (j : Fin 256) :
    upT h w (ix2 e j) = ∑ d : Fin 1024, h (ix2 e d) * w (ix2 d j) := by
  pointwise [upT]

theorem tapsT_at (u : FVec Ideal S1056x256 .f32) (b c0 c1 c2 : FVec Ideal S1x256 .f32) (r : Fin 1024) (j : Fin 256) :
    tapsT u b c0 c1 c2 (ix2 r j) = b (ix2 0 j) + u (ix2 ⟨r + 15, by omega⟩ j) * c0 (ix2 0 j) + u (ix2 ⟨r + 16, by omega⟩ j) * c1 (ix2 0 j)
      + u (ix2 ⟨r + 17, by omega⟩ j) * c2 (ix2 0 j) := by
  pointwise [tapsT]
  have h0 : (16 + r.val + 1056 - 1) % 1056 = r.val + 15 := by omega
  have h2 : (16 + r.val + 1056 - 1055) % 1056 = r.val + 17 := by omega
  simp only [h0, h2]
  simp only [Nat.add_comm 16]

theorem gateT_at (c d : FVec Ideal S1024x256 .f32) (r : Fin 1024) (j : Fin 256) :
    gateT c d (ix2 r j) = Cert.Ffn.silu (c (ix2 r j)) * d (ix2 r j) := by
  pointwise [gateT, Cert.Ffn.silu]
  rw [zero_sub]

theorem pay28_at (a w : FVec Ideal S1024x1024 .bf16) (r c : Fin 1024) :
    k0_pay28 (F := Ideal) a w (ix2 r c) = (∑ f : Fin 1024, a (ix2 r f) * w (ix2 f c) : EReal) := by
  pointwise [k0_pay28]

theorem pay56_at (a w : FVec Ideal S1024x1024 .bf16) (r c : Fin 1024) :
    k0_pay56 (F := Ideal) a w (ix2 r c) = (∑ f : Fin 1024, a (ix2 r f) * w (ix2 f c) : EReal) := by
  pointwise [k0_pay56]

theorem pay1_at (x : FVec Ideal S1056x1024 .f32) (d0 d1 : FVec Ideal S1024x1024 .f32) (a : FVec Ideal S1024x768 .bf16)
    (w : FVec Ideal S768x1024 .bf16) (r c : Fin 1024) :
    k0_pay1 x d0 d1 a w (ix2 r c) = x (ix2 ⟨r + 16, by omega⟩ c)
      + (d0 (ix2 r c) + d1 (ix2 r c) + ∑ f : Fin 768, a (ix2 r f) * w (ix2 f c)) := by
  pointwise [k0_pay1]
  simp only [Nat.add_comm 16]

end Cert.Kernel2Ideal.Value

end
-- ==== Proof.Ffn.Strips.lean ====
/- The feed-forward kernel's activation: strips of 256 columns written side by side, then read as one matrix. -/
module

public import proofs.«01_k».proof.Proof.Ffn.Tile
public import Idealize.ShloMosaic.Lib.Pipeline.ValueKit

@[expose] public section

set_option maxRecDepth 16384

noncomputable section

namespace Cert.Kernel2Ideal.Value

open Cert.Kernel2Ideal Cert.Kernel2Ideal.Gen Idealize.ShloMosaic Idealize.SL.Sem
open Idealize.ShloMosaic.View (Piece)

/-- A strip of 256 columns at column `o` gives the entries of its columns. -/
theorem strip_hit (o : ℕ) (inb : ∀ a, (![0, o] : Fin 2 → ℕ) a + (![1024, 256] : Fin 2 → ℕ) a ≤ S1024x1024.size a)
    (w : FVec Ideal S1024x256 .bf16) (L : List (Piece (Elt Ideal) S1024x1024 .bf16)) (r f : Fin 1024) (h0 : o ≤ f.val) (h1 : f.val < o + 256) :
    View.canon ((⟨Rect.unit ![0, o] ![1024, 256] inb, w⟩ : Piece (Elt Ideal) S1024x1024 .bf16) :: L) (ix2 r f) = w (ix2 r ⟨f.val - o, by omega⟩) := by
  have he : (Rect.unit (s := S1024x1024) ![0, o] ![1024, 256] inb).emb (ix2 r (⟨f.val - o, by omega⟩ : Fin 256)) = ix2 r f := by
    funext a
    apply Fin.ext
    rw [Rect.emb_apply]
    fin_cases a
    · show 0 + 1 * r.val = r.val
      omega
    · show o + 1 * (f.val - o) = f.val
      omega
  rw [← he]
  exact View.canon_cons_emb (Rect.unit (s := S1024x1024) ![0, o] ![1024, 256] inb) w L _

/-- and leaves the others as they were. -/
theorem strip_miss (o : ℕ) (inb : ∀ a, (![0, o] : Fin 2 → ℕ) a + (![1024, 256] : Fin 2 → ℕ) a ≤ S1024x1024.size a)
    (w : FVec Ideal S1024x256 .bf16) (L : List (Piece (Elt Ideal) S1024x1024 .bf16)) (r f : Fin 1024) (h : f.val < o ∨ o + 256 ≤ f.val) :
    View.canon ((⟨Rect.unit ![0, o] ![1024, 256] inb, w⟩ : Piece (Elt Ideal) S1024x1024 .bf16) :: L) (ix2 r f) = View.canon L (ix2 r f) := by
  refine View.canon_cons_of_not_mem _ L fun hm => ?_
  obtain ⟨x, hx⟩ : ∃ x, (Rect.unit (s := S1024x1024) ![0, o] ![1024, 256] inb).emb x = ix2 r f :=
    LoadRect.exists_idx_of_mem (Rect.unit (s := S1024x1024) ![0, o] ![1024, 256] inb).toLoadRect hm
  have h1 : o + 1 * (x 1).val = f.val := by
    have h := congrArg (fun i : S1024x1024.Idx => (i 1).val) hx
    simp only [Rect.emb_apply] at h
    exact h
  have h2 : (x 1).val < 256 := (x 1).isLt
  omega

variable (G : Fin 1024 → ℕ → EReal)

/-- Three strips whose entries are `G`'s, from column 0. -/
theorem three_strips (i2 i1 i0) (w2 w1 w0 : FVec Ideal S1024x256 .bf16) (L : List (Piece (Elt Ideal) S1024x1024 .bf16))
    (h2 : ∀ r (j : Fin 256), w2 (ix2 r j) = G r (512 + j)) (h1 : ∀ r (j : Fin 256), w1 (ix2 r j) = G r (256 + j))
    (h0 : ∀ r (j : Fin 256), w0 (ix2 r j) = G r (0 + j)) (r f : Fin 1024) (hf : f.val < 768) :
    View.canon ((⟨Rect.unit ![0, 512] ![1024, 256] i2, w2⟩ : Piece (Elt Ideal) S1024x1024 .bf16)
      :: (⟨Rect.unit ![0, 256] ![1024, 256] i1, w1⟩ : Piece (Elt Ideal) S1024x1024 .bf16)
      :: (⟨Rect.unit ![0, 0] ![1024, 256] i0, w0⟩ : Piece (Elt Ideal) S1024x1024 .bf16) :: L) (ix2 r f) = G r f := by
  by_cases c2 : 512 ≤ f.val
  · rw [strip_hit 512 i2 w2 _ r f c2 (by omega), h2]
    exact congrArg (G r) (by simp only; omega)
  · rw [strip_miss 512 i2 w2 _ r f (by omega)]
    by_cases c1 : 256 ≤ f.val
    · rw [strip_hit 256 i1 w1 _ r f c1 (by omega), h1]
      exact congrArg (G r) (by simp only; omega)
    · rw [strip_miss 256 i1 w1 _ r f (by omega), strip_hit 0 i0 w0 _ r f (by omega) (by omega), h0]
      exact congrArg (G r) (by simp only; omega)

/-- Four of them fill the matrix. -/
theorem four_strips (i3 i2 i1 i0) (w3 w2 w1 w0 : FVec Ideal S1024x256 .bf16) (L : List (Piece (Elt Ideal) S1024x1024 .bf16))
    (h3 : ∀ r (j : Fin 256), w3 (ix2 r j) = G r (768 + j))
    (h2 : ∀ r (j : Fin 256), w2 (ix2 r j) = G r (512 + j)) (h1 : ∀ r (j : Fin 256), w1 (ix2 r j) = G r (256 + j))
    (h0 : ∀ r (j : Fin 256), w0 (ix2 r j) = G r (0 + j)) (r f : Fin 1024) :
    View.canon ((⟨Rect.unit ![0, 768] ![1024, 256] i3, w3⟩ : Piece (Elt Ideal) S1024x1024 .bf16)
      :: (⟨Rect.unit ![0, 512] ![1024, 256] i2, w2⟩ : Piece (Elt Ideal) S1024x1024 .bf16)
      :: (⟨Rect.unit ![0, 256] ![1024, 256] i1, w1⟩ : Piece (Elt Ideal) S1024x1024 .bf16)
      :: (⟨Rect.unit ![0, 0] ![1024, 256] i0, w0⟩ : Piece (Elt Ideal) S1024x1024 .bf16) :: L) (ix2 r f) = G r f := by
  by_cases c3 : 768 ≤ f.val
  · rw [strip_hit 768 i3 w3 _ r f c3 (by omega), h3]
    exact congrArg (G r) (by simp only; omega)
  · rw [strip_miss 768 i3 w3 _ r f (by omega)]
    exact three_strips G i2 i1 i0 w2 w1 w0 L h2 h1 h0 r f (by omega)

/-- The whole scratch read back at an entry. -/
theorem read_all {σ : RefSig} {κ : Kind} {sp : Space} (v : View σ κ sp S1024x1024 .bf16) (L : List (Piece (Elt Ideal) S1024x1024 .bf16)) (inb) (r f : Fin 1024) :
    v.readCov L (Rect.unit (s := S1024x1024) ![0, 0] ![1024, 1024] inb).toLoadRect (ix2 r f) = View.canon L (ix2 r f) := by
  rw [View.readCov_eq_canon']
  refine congrArg (View.canon L) (funext fun a => Fin.ext ?_)
  fin_cases a
  · show 0 + 1 * r.val = r.val
    omega
  · show 0 + 1 * f.val = f.val
    omega

/-- Its first 768 columns. -/
theorem read_768 {σ : RefSig} {κ : Kind} {sp : Space} (v : View σ κ sp S1024x1024 .bf16) (L : List (Piece (Elt Ideal) S1024x1024 .bf16)) (inb) (r : Fin 1024) (f : Fin 768) :
    v.readCov L (Rect.unit (s := S1024x1024) ![0, 0] ![1024, 768] inb).toLoadRect (ix2 r f)
      = View.canon L (ix2 r ⟨f, by omega⟩) := by
  rw [View.readCov_eq_canon']
  refine congrArg (View.canon L) (funext fun a => Fin.ext ?_)
  fin_cases a
  · show 0 + 1 * r.val = r.val
    omega
  · show 0 + 1 * f.val = f.val
    omega

/-! ## The convolved columns of the wide matrix -/

section Wide
variable (H : FVec Ideal S1056x1024 .bf16) (W : FVec Ideal S1024x5632 .bf16) (CW : FVec Ideal S3x5632 .f32) (CB : FVec Ideal S1x5632 .f32)

/-- The 256 columns from `o` of the wide weights, of its bias and of its tap `k`. -/
abbrev colW (o : ℕ) (i : ∀ a, (![0, o] : Fin 2 → ℕ) a + (![1024, 256] : Fin 2 → ℕ) a ≤ S1024x5632.size a) : FVec Ideal S1024x256 .bf16 :=
  View.ld (Val := Elt Ideal) (e' := .bf16) W (Rect.unit (s := S1024x5632) ![0, o] ![1024, 256] i)
abbrev colB (o : ℕ) (i : ∀ a, (![0, o] : Fin 2 → ℕ) a + (![1, 256] : Fin 2 → ℕ) a ≤ S1x5632.size a) : FVec Ideal S1x256 .f32 :=
  View.ld (Val := Elt Ideal) (e' := .f32) CB (Rect.unit (s := S1x5632) ![0, o] ![1, 256] i)
abbrev colC (k o : ℕ) (i : ∀ a, (![k, o] : Fin 2 → ℕ) a + (![1, 256] : Fin 2 → ℕ) a ≤ S3x5632.size a) : FVec Ideal S1x256 .f32 :=
  View.ld (Val := Elt Ideal) (e' := .f32) CW (Rect.unit (s := S3x5632) ![k, o] ![1, 256] i)

/-- Column `f` of the widened rows. -/
def wide (e : Fin 1056) (f : Fin 5632) : EReal := ∑ d : Fin 1024, H (ix2 e d) * W (ix2 d f)

/-- Column `f` of the convolution. -/
def taps (r : Fin 1024) (f : Fin 5632) : EReal :=
  CB (ix2 0 f) + wide H W ⟨r + 15, by omega⟩ f * CW (ix2 0 f) + wide H W ⟨r + 16, by omega⟩ f * CW (ix2 1 f)
    + wide H W ⟨r + 17, by omega⟩ f * CW (ix2 2 f)

/-- Column `f` of the activation. -/
def gated (r : Fin 1024) (f : ℕ) : EReal :=
  if hf : f < 2816 then Cert.Ffn.silu (taps H W CW CB r ⟨f, by omega⟩) * taps H W CW CB r ⟨2816 + f, by omega⟩ else 0

theorem convT_at (o : ℕ) (i0 i1 j0 j1 j2) (r : Fin 1024) (j : Fin 256) (ho : o + j.val < 5632) :
    convT H (colW W o i0) (colB CB o i1) (colC CW 0 o j0) (colC CW 1 o j1) (colC CW 2 o j2) (ix2 r j) = taps H W CW CB r ⟨o + j, ho⟩ := by
  have eb : colB CB o i1 (ix2 (0 : Fin 1) j) = CB (ix2 0 ⟨o + j, ho⟩) := by
    refine congrArg CB (funext fun a => Fin.ext ?_)
    fin_cases a
    · rfl
    · show o + 1 * j.val = o + j.val
      omega
  have e (k : ℕ) (i) (hk : k < 3) : colC CW k o i (ix2 (0 : Fin 1) j) = CW (ix2 ⟨k, hk⟩ ⟨o + j, ho⟩) := by
    refine congrArg CW (funext fun a => Fin.ext ?_)
    fin_cases a
    · show k + 1 * 0 = k
      omega
    · show o + 1 * j.val = o + j.val
      omega
  have u (x : Fin 1056) : upT H (colW W o i0) (ix2 x j) = wide H W x ⟨o + j, ho⟩ := by
    refine (upT_at _ _ _ _).trans (Finset.sum_congr rfl fun d _ => Ideal.mul_congr rfl (congrArg W (funext fun a => Fin.ext ?_)))
    fin_cases a
    · show 0 + 1 * d.val = d.val
      omega
    · show o + 1 * j.val = o + j.val
      omega
  unfold convT taps
  rw [tapsT_at, u, u, u]
  exact Ideal.add_congr (Ideal.add_congr (Ideal.add_congr eb (Ideal.mul_congr rfl (e 0 j0 (by omega))))
    (Ideal.mul_congr rfl (e 1 j1 (by omega)))) (Ideal.mul_congr rfl (e 2 j2 (by omega)))

/-- A strip of the activation, from column `o` and its partner column `o' = o + 2816`. -/
theorem gateT_strip (o o' : ℕ) (i0 i1 j0 j1 j2 i0' i1' j0' j1' j2') (ho : o + 256 ≤ 2816) (ho' : o' = 2816 + o) (r : Fin 1024) (j : Fin 256) :
    gateT (convT H (colW W o i0) (colB CB o i1) (colC CW 0 o j0) (colC CW 1 o j1) (colC CW 2 o j2))
        (convT H (colW W o' i0') (colB CB o' i1') (colC CW 0 o' j0') (colC CW 1 o' j1') (colC CW 2 o' j2')) (ix2 r j)
      = gated H W CW CB r (o + j) := by
  subst ho'
  unfold gated
  rw [gateT_at, dif_pos (by omega : o + j.val < 2816), convT_at H W CW CB o _ _ _ _ _ r j (by omega),
    convT_at H W CW CB (2816 + o) _ _ _ _ _ r j (by omega)]
  refine Ideal.mul_congr rfl (congrArg (taps H W CW CB r) (Fin.ext ?_))
  simp only
  omega

end Wide

end Cert.Kernel2Ideal.Value

end
-- ==== Proof.Ffn.Tokens.lean ====
/- A tile of the feed-forward kernel in the token array: from rows and weights that hold the block's, what the tile
   writes is the block's result at its tokens. -/
module

public import proofs.«01_k».proof.Proof.Ffn.Strips
public import proofs.«01_k».proof.Proof.Gen.Kernel2Ideal.Value

@[expose] public section

set_option maxRecDepth 16384

noncomputable section

namespace Cert.Kernel2Ideal.Value

open Cert.Kernel2Ideal Cert.Kernel2Ideal.Gen Idealize.ShloMosaic Idealize.SL.Sem
open Cert.Ffn (Block)

/-- Whether tile `t` has place `b` among the two tiles of its sequence, as the kernel decides it from the remainder of `t` by two. -/
def seqBit (t : Fin cfg0.N) (b : BitVec 32) : BitVec 1 :=
  Scalar.cmpi .eq (Scalar.select (Scalar.andi (Scalar.xori (Scalar.cmpi .slt (Scalar.remsi (BitVec.ofNat 32 (grid0.coords t 0)) 2#32) 0#32) 0#1)
      (Scalar.cmpi .ne (Scalar.remsi (BitVec.ofNat 32 (grid0.coords t 0)) 2#32) 0#32))
    (Scalar.addi (Scalar.remsi (BitVec.ofNat 32 (grid0.coords t 0)) 2#32) 2#32) (Scalar.remsi (BitVec.ofNat 32 (grid0.coords t 0)) 2#32)) b

theorem seqBit_first : ∀ t : Fin cfg0.N, seqBit t 0#32 = if t.val % 2 = 0 then 1#1 else 0#1 :=
  (by decide +kernel : ∀ t : Fin grid0.N, _)

theorem seqBit_last : ∀ t : Fin cfg0.N, seqBit t 1#32 = if t.val % 2 = 1 then 1#1 else 0#1 :=
  (by decide +kernel : ∀ t : Fin grid0.N, _)

variable (t : Fin cfg0.N)

theorem t_lt : t.val < 32 := t.isLt

/-- Row `e` of the tile with its borders, where it belongs to the tile's sequence, is token `n = 1024 t + e - 16`. -/
def Inside (e : Fin 1056) : Prop := (16 ≤ e.val ∨ t.val % 2 = 1) ∧ (e.val < 1040 ∨ t.val % 2 = 0)

theorem cat_at {α : Type} (f : Fin 32768 → α) (p : Fin 16 → α) (q : Fin 1024 → α) (s : Fin 16 → α)
    (hp : ∀ i, p i = f ⟨16 * (64 * t.val - 1) + i.val, by have := t_lt t; omega⟩)
    (hq : ∀ i, q i = f ⟨1024 * t.val + i.val, by have := t_lt t; omega⟩)
    (hs : ∀ i, s i = f ⟨16 * min (64 * (t.val + 1)) 2047 + i.val, by have := t_lt t; omega⟩)
    (e : Fin 1056) (n : Fin 32768) (hn : n.val + 16 = 1024 * t.val + e.val) (he : Inside t e) :
    (if h : e.val < 16 then p ⟨e, h⟩ else if h' : e.val < 1040 then q ⟨e - 16, by omega⟩ else s ⟨e - 1040, by omega⟩) = f n := by
  have ht := t_lt t
  obtain ⟨h1, h2⟩ := he
  by_cases h : e.val < 16
  · rw [dif_pos h, hp]
    exact congrArg f (Fin.ext (by simp only; omega))
  · rw [dif_neg h]
    by_cases h' : e.val < 1040
    · rw [dif_pos h', hq]
      exact congrArg f (Fin.ext (by simp only; omega))
    · rw [dif_neg h', hs]
      exact congrArg f (Fin.ext (by simp only; omega))

theorem outside_iff (e : Fin 1056) : outsideT (seqBit t 0#32) (seqBit t 1#32) (ix2 e 0) = 1#1 ↔ ¬ Inside t e := by
  rw [outsideT_at, seqBit_first, seqBit_last]
  unfold Inside
  by_cases h : e.val < 16
  · rw [if_pos h]
    by_cases h2 : t.val % 2 = 0
    · rw [if_pos h2]
      exact iff_of_true rfl (by omega)
    · rw [if_neg h2]
      exact iff_of_false (by decide) (by omega)
  · rw [if_neg h]
    by_cases h' : e.val < 1040
    · rw [if_pos h']
      exact iff_of_false (by decide) (by omega)
    · rw [if_neg h']
      by_cases h2 : t.val % 2 = 1
      · rw [if_pos h2]
        exact iff_of_true rfl (by omega)
      · rw [if_neg h2]
        exact iff_of_false (by decide) (by omega)

/-- The tile's rows with their borders, and the resident weights, hold the block's entries. -/
structure Holds (b : Block) (t : Fin cfg0.N) (X : FVec Ideal S1056x1024 .f32) (G : FVec Ideal S1x1024 .f32)
    (W : FVec Ideal S1024x5632 .bf16) (CW : FVec Ideal S3x5632 .f32) (CB : FVec Ideal S1x5632 .f32)
    (WD : FVec Ideal S2816x1024 .bf16) : Prop where
  x : ∀ (e : Fin 1056) (n : Fin 32768), n.val + 16 = 1024 * t.val + e.val → Inside t e → ∀ k, X (ix2 e k) = b.res n k
  g : ∀ k, G (ix2 0 k) = b.g (ix1 k)
  w : ∀ d f, W (ix2 d f) = b.wup (ix2 d f)
  cw : ∀ k f, CW (ix2 k f) = b.cw (ix2 k f)
  cb : ∀ f, CB (ix2 0 f) = b.cb (ix1 f)
  wd : ∀ f k, WD (ix2 f k) = b.wdn (ix2 f k)

/-- The normalised rows, zero outside the tile's sequence. -/
abbrev rowsN (X : FVec Ideal S1056x1024 .f32) (G : FVec Ideal S1x1024 .f32) : FVec Ideal S1056x1024 .bf16 :=
  maskT (outsideT (seqBit t 0#32) (seqBit t 1#32)) (normT X G)

section Hold
variable {b : Block} {t : Fin cfg0.N} {X : FVec Ideal S1056x1024 .f32} {G : FVec Ideal S1x1024 .f32}
  {W : FVec Ideal S1024x5632 .bf16} {CW : FVec Ideal S3x5632 .f32} {CB : FVec Ideal S1x5632 .f32}
  {WD : FVec Ideal S2816x1024 .bf16} (H : Holds b t X G W CW CB WD)
include H

/-- The widened rows inside the tile's sequence are the tokens'. -/
theorem wide_in (e : Fin 1056) (n : Fin 32768) (hn : n.val + 16 = 1024 * t.val + e.val) (he : Inside t e) (f : Fin 5632) :
    wide (rowsN t X G) W e f = Cert.Ffn.up b n f := by
  unfold wide Cert.Ffn.up Cert.Ffn.hn
  refine Finset.sum_congr rfl fun d _ => Ideal.mul_congr ?_ (H.w d f)
  rw [rowsN, maskT_at, if_neg (fun h => (outside_iff t e).mp h he), normT_at]
  have hrow : (fun k => X (ix2 e k)) = b.res n := funext fun k => H.x e n hn he k
  rw [hrow, H.x e n hn he d, H.g]

/-- Those outside it are zero. -/
theorem wide_out (e : Fin 1056) (he : ¬ Inside t e) (f : Fin 5632) : wide (rowsN t X G) W e f = 0 := by
  unfold wide
  refine Finset.sum_eq_zero fun d _ => ?_
  rw [rowsN, maskT_at, if_pos ((outside_iff t e).mpr he)]
  exact zero_mul _

/-- The tile's convolution at row `r` is the tokens' at `n = 1024 t + r`. -/
theorem taps_eq (r : Fin 1024) (n : Fin 32768) (hn : n.val = 1024 * t.val + r.val) (f : Fin 5632) :
    taps (rowsN t X G) W CW CB r f = Cert.Ffn.conv b n f := by
  have ht := t_lt t
  unfold taps Cert.Ffn.conv
  refine Ideal.add_congr (Ideal.add_congr (Ideal.add_congr (H.cb f) (Ideal.mul_congr ?_ (H.cw 0 f)))
    (Ideal.mul_congr ?_ (H.cw 1 f))) (Ideal.mul_congr ?_ (H.cw 2 f))
  · unfold Cert.Ffn.upPrev
    by_cases h : n.val % 2048 = 0
    · rw [if_pos h]
      exact wide_out H _ (by unfold Inside; simp only; omega) f
    · rw [if_neg h]
      exact wide_in H _ _ (by simp only; omega) (by unfold Inside; simp only; omega) f
  · exact wide_in H _ _ (by simp only; omega) (by unfold Inside; simp only; omega) f
  · unfold Cert.Ffn.upNext
    by_cases h : n.val % 2048 = 2047
    · rw [dif_pos h]
      exact wide_out H _ (by unfold Inside; simp only; omega) f
    · rw [dif_neg h]
      exact wide_in H _ _ (by simp only; omega) (by unfold Inside; simp only; omega) f

theorem gated_eq (r : Fin 1024) (n : Fin 32768) (hn : n.val = 1024 * t.val + r.val) (f : Fin 2816) :
    gated (rowsN t X G) W CW CB r f = Cert.Ffn.act b n f := by
  unfold gated Cert.Ffn.act
  rw [dif_pos f.isLt, taps_eq H r n hn, taps_eq H r n hn]

/-- What a grid point leaves is its block of the result. -/
theorem out_block (r k : Fin 1024) :
    X (ix2 ⟨r + 16, by omega⟩ k)
        + ∑ f : Fin 2816, gated (rowsN t X G) W CW CB r f * WD (ix2 f k)
      = Cert.Ffn.out b ⟨1024 * t.val + r.val, by have := t_lt t; omega⟩ k := by
  unfold Cert.Ffn.out
  exact Ideal.add_congr (H.x _ _ (by simp only; omega) (by unfold Inside; simp only; omega) k)
    (Finset.sum_congr rfl fun f _ => Ideal.mul_congr (gated_eq H r _ rfl f) (H.wd f k))

end Hold

end Cert.Kernel2Ideal.Value

end
-- ==== Proof.Ffn.Down.lean ====
/- A tile's result: the activation, written in strips, times the narrowing weights in three products, is one sum. -/
module

public import proofs.«01_k».proof.Proof.Ffn.Strips

@[expose] public section

set_option maxRecDepth 16384

noncomputable section

namespace Cert.Kernel2Ideal.Value

open Cert.Kernel2Ideal Cert.Kernel2Ideal.Gen Idealize.ShloMosaic Idealize.SL.Sem
open Idealize.ShloMosaic.View (Piece)

/-- The rows of the narrowing weights from `o`. -/
abbrev rowsD (WD : FVec Ideal S2816x1024 .bf16) (o n : ℕ) (i : ∀ a, (![o, 0] : Fin 2 → ℕ) a + (![n, 1024] : Fin 2 → ℕ) a ≤ S2816x1024.size a) :
    FVec Ideal ⟨2, ![n, 1024]⟩ .bf16 :=
  View.ld (Val := Elt Ideal) (e' := .bf16) WD (Rect.unit (s := S2816x1024) ![o, 0] ![n, 1024] i)

theorem rowsD_at (WD : FVec Ideal S2816x1024 .bf16) (o n : ℕ) (i) (f : Fin n) (k : Fin 1024) (q : Fin 2816) (hq : q.val = o + f.val) :
    rowsD WD o n i (ix2 f k) = WD (ix2 q k) := by
  refine congrArg WD (funext fun a => Fin.ext ?_)
  fin_cases a
  · show o + 1 * f.val = q.val
    omega
  · show 0 + 1 * k.val = k.val
    omega

section Down
variable (X : FVec Ideal S1056x1024 .f32) (H : FVec Ideal S1056x1024 .bf16) (W : FVec Ideal S1024x5632 .bf16) (CW : FVec Ideal S3x5632 .f32)
  (CB : FVec Ideal S1x5632 .f32) (WD : FVec Ideal S2816x1024 .bf16)

theorem in_cols (o : ℕ) (h : o + 256 ≤ 5632) : ∀ a, (![0, o] : Fin 2 → ℕ) a + (![1024, 256] : Fin 2 → ℕ) a ≤ S1024x5632.size a := by
  refine Fin.forall_fin_two.mpr ⟨?_, ?_⟩
  · show 0 + 1024 ≤ 1024
    omega
  · show o + 256 ≤ 5632
    omega

theorem in_bias (o : ℕ) (h : o + 256 ≤ 5632) : ∀ a, (![0, o] : Fin 2 → ℕ) a + (![1, 256] : Fin 2 → ℕ) a ≤ S1x5632.size a := by
  refine Fin.forall_fin_two.mpr ⟨?_, ?_⟩
  · show 0 + 1 ≤ 1
    omega
  · show o + 256 ≤ 5632
    omega

theorem in_taps (k o : ℕ) (hk : k < 3) (h : o + 256 ≤ 5632) : ∀ a, (![k, o] : Fin 2 → ℕ) a + (![1, 256] : Fin 2 → ℕ) a ≤ S3x5632.size a := by
  refine Fin.forall_fin_two.mpr ⟨?_, ?_⟩
  · show k + 1 ≤ 3
    omega
  · show o + 256 ≤ 5632
    omega

/-- The convolution of the 256 columns from `o`. -/
def convS (o : ℕ) (h : o + 256 ≤ 5632) : FVec Ideal S1024x256 .f32 :=
  convT H (colW W o (in_cols o h)) (colB CB o (in_bias o h)) (colC CW 0 o (in_taps 0 o (by omega) h)) (colC CW 1 o (in_taps 1 o (by omega) h))
    (colC CW 2 o (in_taps 2 o (by omega) h))

/-- The activation's strip of 256 columns from `o`; its partner's columns are given as literals. -/
def strip (o o' : ℕ) (h : o + 256 ≤ 5632) (h' : o' + 256 ≤ 5632) : Vec Ideal S1024x256 .bf16 :=
  gateT (convS H W CW CB o h) (convS H W CW CB o' h')

theorem strip_at (o o' : ℕ) (h h') (ho : o + 256 ≤ 2816) (ho' : o' = 2816 + o) (r : Fin 1024) (j : Fin 256) :
    strip H W CW CB o o' h h' (ix2 r j) = gated H W CW CB r (o + j) :=
  gateT_strip H W CW CB o o' _ _ _ _ _ _ _ _ _ _ ho ho' r j

/-- The scratch after its first four strips, after the next four, and after the last three. -/
abbrev pieces0 : List (Piece (Elt Ideal) S1024x1024 .bf16) :=
  [⟨Rect.unit ![0, 768] ![1024, 256] inb_S1024x1024_S1024x256_0_768, strip H W CW CB 768 3584 (by omega) (by omega)⟩,
   ⟨Rect.unit ![0, 512] ![1024, 256] inb_S1024x1024_S1024x256_0_512, strip H W CW CB 512 3328 (by omega) (by omega)⟩,
   ⟨Rect.unit ![0, 256] ![1024, 256] inb_S1024x1024_S1024x256_0_256, strip H W CW CB 256 3072 (by omega) (by omega)⟩,
   ⟨Rect.unit ![0, 0] ![1024, 256] inb_S1024x1024_S1024x256_0_0, strip H W CW CB 0 2816 (by omega) (by omega)⟩]
abbrev pieces1 : List (Piece (Elt Ideal) S1024x1024 .bf16) :=
  ⟨Rect.unit ![0, 768] ![1024, 256] inb_S1024x1024_S1024x256_0_768, strip H W CW CB 1792 4608 (by omega) (by omega)⟩
  :: ⟨Rect.unit ![0, 512] ![1024, 256] inb_S1024x1024_S1024x256_0_512, strip H W CW CB 1536 4352 (by omega) (by omega)⟩
  :: ⟨Rect.unit ![0, 256] ![1024, 256] inb_S1024x1024_S1024x256_0_256, strip H W CW CB 1280 4096 (by omega) (by omega)⟩
  :: ⟨Rect.unit ![0, 0] ![1024, 256] inb_S1024x1024_S1024x256_0_0, strip H W CW CB 1024 3840 (by omega) (by omega)⟩
  :: pieces0 H W CW CB
abbrev pieces2 : List (Piece (Elt Ideal) S1024x1024 .bf16) :=
  ⟨Rect.unit ![0, 512] ![1024, 256] inb_S1024x1024_S1024x256_0_512, strip H W CW CB 2560 5376 (by omega) (by omega)⟩
  :: ⟨Rect.unit ![0, 256] ![1024, 256] inb_S1024x1024_S1024x256_0_256, strip H W CW CB 2304 5120 (by omega) (by omega)⟩
  :: ⟨Rect.unit ![0, 0] ![1024, 256] inb_S1024x1024_S1024x256_0_0, strip H W CW CB 2048 4864 (by omega) (by omega)⟩
  :: pieces1 H W CW CB

/-- A tile's result from what the three products read: the residual row plus the activation times the narrowing weights,
    the three partial products being one sum over all columns. -/
theorem tile_out (A0 A1 : Vec Ideal S1024x1024 .bf16) (A2 : Vec Ideal S1024x768 .bf16)
    (h0 : ∀ r f, A0 (ix2 r f) = View.canon (pieces0 H W CW CB) (ix2 r f))
    (h1 : ∀ r f, A1 (ix2 r f) = View.canon (pieces1 H W CW CB) (ix2 r f))
    (h2 : ∀ r (f : Fin 768), A2 (ix2 r f) = View.canon (pieces2 H W CW CB) (ix2 r ⟨f, by omega⟩)) (i0 i1 i2) (r k : Fin 1024) :
    k0_pay1 X (k0_pay28 A0 (rowsD WD 0 1024 i0)) (k0_pay56 A1 (rowsD WD 1024 1024 i1)) A2 (rowsD WD 2048 768 i2) (ix2 r k)
      = X (ix2 ⟨r + 16, by omega⟩ k) + ∑ f : Fin 2816, gated H W CW CB r f * WD (ix2 f k) := by
  rw [pay1_at, pay28_at, pay56_at, Fin.sum_univ_two_halves 2048 768 rfl, Fin.sum_univ_two_halves 1024 1024 rfl]
  refine Ideal.add_congr rfl (Ideal.add_congr (Ideal.add_congr
    (Finset.sum_congr rfl fun f _ => Ideal.mul_congr ((h0 r f).trans ?_) (rowsD_at WD 0 1024 _ f k _ (by simp only; omega)))
    (Finset.sum_congr rfl fun f _ => Ideal.mul_congr ((h1 r f).trans ?_) (rowsD_at WD 1024 1024 _ f k _ rfl)))
    (Finset.sum_congr rfl fun f _ => Ideal.mul_congr ((h2 r f).trans ?_) (rowsD_at WD 2048 768 _ f k _ rfl)))
  · exact four_strips (gated H W CW CB) _ _ _ _ _ _ _ _ _ (strip_at H W CW CB 768 3584 _ _ (by omega) rfl) (strip_at H W CW CB 512 3328 _ _ (by omega) rfl)
      (strip_at H W CW CB 256 3072 _ _ (by omega) rfl) (strip_at H W CW CB 0 2816 _ _ (by omega) rfl) r f
  · refine (four_strips (fun r f => gated H W CW CB r (1024 + f)) _ _ _ _ _ _ _ _ _
      (fun r j => (strip_at H W CW CB 1792 4608 _ _ (by omega) rfl r j).trans ?_) (fun r j => (strip_at H W CW CB 1536 4352 _ _ (by omega) rfl r j).trans ?_)
      (fun r j => (strip_at H W CW CB 1280 4096 _ _ (by omega) rfl r j).trans ?_) (fun r j => (strip_at H W CW CB 1024 3840 _ _ (by omega) rfl r j).trans ?_) r f)
    all_goals exact congrArg (gated H W CW CB r) (by omega)
  · refine (three_strips (fun r f => gated H W CW CB r (2048 + f)) _ _ _ _ _ _ _
      (fun r j => (strip_at H W CW CB 2560 5376 _ _ (by omega) rfl r j).trans ?_) (fun r j => (strip_at H W CW CB 2304 5120 _ _ (by omega) rfl r j).trans ?_)
      (fun r j => (strip_at H W CW CB 2048 4864 _ _ (by omega) rfl r j).trans ?_) r ⟨f, by omega⟩ f.isLt)
    all_goals exact congrArg (gated H W CW CB r) (by omega)

end Down

end Cert.Kernel2Ideal.Value

end
-- ==== Proof.Ffn.Blocks.lean ====
/- The feed-forward kernel's blocks: which entries of the arguments each operand's block at a grid point holds. -/
module

public import proofs.«01_k».proof.Proof.Gen.Kernel2Ideal.Value
public import proofs.«01_k».proof.Proof.Ffn.Tokens

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)
open Cert.Ffn (Args)

variable (m : (ℓ : Loc nD τ sig) → Buf (Elt Ideal) ℓ)

/-- The arguments as the launch leaves them. -/
abbrev argsOf (c : Dev nD) : Args where
  x := m ((c.tc : Thread nD τ).loc main_arg0)
  ya := m ((c.tc : Thread nD τ).loc main_arg1)
  yb := m ((c.tc : Thread nD τ).loc main_arg2)
  wo := m ((c.tc : Thread nD τ).loc main_arg3)
  g := m ((c.tc : Thread nD τ).loc main_arg4)
  wup := m ((c.tc : Thread nD τ).loc main_arg5)
  cw := m ((c.tc : Thread nD τ).loc main_arg6)
  cb := m ((c.tc : Thread nD τ).loc main_arg7)
  wdn := m ((c.tc : Thread nD τ).loc main_arg8)

/-- The block of each operand at point `t`: the tile, the sixteen rows before it, the sixteen rows after it. -/
theorem idx : ∀ t : Fin cfg0.N,
    win0_0.index t = ![t.val, 0] ∧ win0_1.index t = ![64 * t.val - 1, 0] ∧ win0_2.index t = ![min (64 * (t.val + 1)) 2047, 0]
    ∧ win0_3.index t = ![t.val, 0] ∧ win0_4.index t = ![64 * t.val - 1, 0] ∧ win0_5.index t = ![min (64 * (t.val + 1)) 2047, 0]
    ∧ win0_6.index t = ![t.val, 0] ∧ win0_7.index t = ![64 * t.val - 1, 0] ∧ win0_8.index t = ![min (64 * (t.val + 1)) 2047, 0]
    ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_17.index t = ![t.val, 0] :=
  (by decide +kernel : ∀ t : Fin grid0.N, _)

theorem N_eq : cfg0.N = 32 := rfl

variable (c : Dev nD) (t : Fin cfg0.N)

theorem blk0 (r : Fin 1024) (k : Fin 1024) :
    iblk m c 0 t (ix2 r k) = (argsOf m c).x (ix2 ⟨1024 * t.val + r.val, by have := t_lt t; omega⟩ k) := by
  blk_point [iblk, V, idx t]

theorem blk1 (p : Fin 16) (k : Fin 1024) :
    iblk m c 1 t (ix2 p k) = (argsOf m c).x (ix2 ⟨16 * (64 * t.val - 1) + p.val, by have := t_lt t; omega⟩ k) := by
  blk_point [iblk, V, idx t]

theorem blk2 (p : Fin 16) (k : Fin 1024) :
    iblk m c 2 t (ix2 p k) = (argsOf m c).x (ix2 ⟨16 * min (64 * (t.val + 1)) 2047 + p.val, by have := t_lt t; omega⟩ k) := by
  blk_point [iblk, V, idx t]

theorem blk3 (r : Fin 1024) (k : Fin 512) :
    iblk m c 3 t (ix2 r k) = (argsOf m c).ya (ix2 ⟨1024 * t.val + r.val, by have := t_lt t; omega⟩ k) := by
  blk_point [iblk, V, idx t]

theorem blk4 (p : Fin 16) (k : Fin 512) :
    iblk m c 4 t (ix2 p k) = (argsOf m c).ya (ix2 ⟨16 * (64 * t.val - 1) + p.val, by have := t_lt t; omega⟩ k) := by
  blk_point [iblk, V, idx t]

theorem blk5 (p : Fin 16) (k : Fin 512) :
    iblk m c 5 t (ix2 p k) = (argsOf m c).ya (ix2 ⟨16 * min (64 * (t.val + 1)) 2047 + p.val, by have := t_lt t; omega⟩ k) := by
  blk_point [iblk, V, idx t]

theorem blk6 (r : Fin 1024) (k : Fin 512) :
    iblk m c 6 t (ix2 r k) = (argsOf m c).yb (ix2 ⟨1024 * t.val + r.val, by have := t_lt t; omega⟩ k) := by
  blk_point [iblk, V, idx t]

theorem blk7 (p : Fin 16) (k : Fin 512) :
    iblk m c 7 t (ix2 p k) = (argsOf m c).yb (ix2 ⟨16 * (64 * t.val - 1) + p.val, by have := t_lt t; omega⟩ k) := by
  blk_point [iblk, V, idx t]

theorem blk8 (p : Fin 16) (k : Fin 512) :
    iblk m c 8 t (ix2 p k) = (argsOf m c).yb (ix2 ⟨16 * min (64 * (t.val + 1)) 2047 + p.val, by have := t_lt t; omega⟩ k) := by
  blk_point [iblk, V, idx t]

theorem blk9 (e : Fin 512) (k : Fin 1024) : iblk m c 9 t (ix2 e k) = (argsOf m c).wo (ix2 ⟨e, by omega⟩ k) := by
  blk_point [iblk, V, idx t]

theorem blk10 (e : Fin 512) (k : Fin 1024) : iblk m c 10 t (ix2 e k) = (argsOf m c).wo (ix2 ⟨512 + e, by omega⟩ k) := by
  blk_point [iblk, V, idx t]

theorem blk11 (k : Fin 1024) : iblk m c 11 t (ix2 0 k) = (argsOf m c).g (ix1 k) := by
  blk_point [iblk, V, idx t]

theorem blk12 (e : Fin 1024) (k : Fin 5632) : iblk m c 12 t (ix2 e k) = (argsOf m c).wup (ix2 e k) := by
  blk_point [iblk, V, idx t]

theorem blk13 (e : Fin 3) (k : Fin 5632) : iblk m c 13 t (ix2 e k) = (argsOf m c).cw (ix2 e k) := by
  blk_point [iblk, V, idx t]

theorem blk14 (k : Fin 5632) : iblk m c 14 t (ix2 0 k) = (argsOf m c).cb (ix1 k) := by
  blk_point [iblk, V, idx t]

theorem blk15 (e : Fin 2816) (k : Fin 1024) : iblk m c 15 t (ix2 e k) = (argsOf m c).wdn (ix2 e k) := by
  blk_point [iblk, V, idx t]

end Cert.Kernel2Ideal.Value

end
-- ==== Proof.Ffn.Value.lean ====
/- The feed-forward kernel's value: what a grid point writes, and the array it leaves, entry by entry. -/
module

public import proofs.«01_k».proof.Proof.Ffn.Tokens
public import proofs.«01_k».proof.Proof.Ffn.Down
public import proofs.«01_k».proof.Proof.Ffn.Blocks

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)
open Cert.Ffn (Args)

variable (m : (ℓ : Loc nD τ sig) → Buf (Elt Ideal) ℓ) (c : Dev nD) (t : Fin cfg0.N)

/-- The tile's residual rows with the sixteen rows before it and the sixteen after it. -/
def rowsX : FVec Ideal S1056x1024 .f32 :=
  k0_pay4 (k0_pay2 (iblk m c 1 t) (iblk m c 0 t) (iblk m c 2 t)) (k0_pay3 (iblk m c 4 t) (iblk m c 3 t) (iblk m c 5 t)) (iblk m c 9 t)
    (iblk m c 7 t) (iblk m c 6 t) (iblk m c 8 t) (iblk m c 10 t)

theorem rowsX_at (e : Fin 1056) (n : Fin 32768) (hn : n.val + 16 = 1024 * t.val + e.val) (he : Inside t e) (k : Fin 1024) :
    rowsX m c t (ix2 e k) = Cert.Ffn.x1 (argsOf m c) n k := by
  unfold rowsX Cert.Ffn.x1
  rw [pay4_eq, resT_at]
  refine Ideal.add_congr ?_ (Ideal.add_congr (Finset.sum_congr rfl fun d _ => Ideal.mul_congr ?_ (blk9 m c t d k))
    (Finset.sum_congr rfl fun d _ => Ideal.mul_congr ?_ (blk10 m c t d k)))
  · rw [pay2_at]
    exact cat_at t (fun n => (argsOf m c).x (ix2 n k)) (fun i => iblk m c 1 t (ix2 i k)) (fun i => iblk m c 0 t (ix2 i k)) (fun i => iblk m c 2 t (ix2 i k))
      (fun i => blk1 m c t i k) (fun i => blk0 m c t i k) (fun i => blk2 m c t i k) e n hn he
  · rw [pay3_at]
    exact cat_at t (fun n => (argsOf m c).ya (ix2 n d)) (fun i => iblk m c 4 t (ix2 i d)) (fun i => iblk m c 3 t (ix2 i d)) (fun i => iblk m c 5 t (ix2 i d))
      (fun i => blk4 m c t i d) (fun i => blk3 m c t i d) (fun i => blk5 m c t i d) e n hn he
  · rw [pay3_at]
    exact cat_at t (fun n => (argsOf m c).yb (ix2 n d)) (fun i => iblk m c 7 t (ix2 i d)) (fun i => iblk m c 6 t (ix2 i d)) (fun i => iblk m c 8 t (ix2 i d))
      (fun i => blk7 m c t i d) (fun i => blk6 m c t i d) (fun i => blk8 m c t i d) e n hn he

/-- The tile's operands hold the block's. -/
theorem holds : Holds (argsOf m c).block t (rowsX m c t) (iblk m c 11 t) (iblk m c 12 t) (iblk m c 13 t) (iblk m c 14 t) (iblk m c 15 t) :=
  ⟨fun e n hn he k => rowsX_at m c t e n hn he k, blk11 m c t, blk12 m c t, blk13 m c t, blk14 m c t, blk15 m c t⟩

/-- The result array's contents. -/
def result : FVec Ideal S32768x1024 .f32 := fun i => Cert.Ffn.out (argsOf m c).block (i 0) (i 1)

/-- The result's block at point `t` starts at row `1024 t`. -/
theorem emb_out (X : FVec Ideal S32768x1024 .f32) (r k : Fin 1024) :
    X (((View.whole main_v9).slice (win0_17.rect t)).emb (ix2 r k)) = X (ix2 ⟨1024 * t.val + r.val, by have := t_lt t; omega⟩ k) := by
  blk_point [idx t]

/-- The array the launch leaves. -/
theorem final : (dats m 0 c).arrAt 17 (cfgs 0).N = result m c := by
  refine (dats m 0 c).arrAt_eq_of_covers 17 _ (by decide +kernel) fun t _ y => ?_
  blk_simp
  rw [after0_17]
  unfold outsAt0
  frame_out
  idx_vars y
  rw [emb_out t (result m c)]
  exact Eq.trans (tile_out (rowsX m c t) (rowsN t (rowsX m c t) (iblk m c 11 t)) (iblk m c 12 t) (iblk m c 13 t) (iblk m c 14 t) (iblk m c 15 t)
    _ _ _ (fun r f => read_all _ _ _ r f) (fun r f => read_all _ _ _ r f) (fun r f => read_768 _ _ _ r f) _ _ _ y0 y1) (out_block (holds m c t) y0 y1)

end Cert.Kernel2Ideal.Value

end
-- ==== Proof.Ffn.Ref.lean ====
/- The reference's composed term of the feed-forward block is `Cert.Ffn.out` at every index. -/
module

public import proofs.«01_k».proof.Proof.Gen.Reference2Ideal.Run
public import proofs.«01_k».proof.Proof.Ffn.Spec

@[expose] public section

set_option maxRecDepth 16384

noncomputable section

namespace Cert.Reference2Ideal.Value

open Cert.Reference2Ideal Cert.Reference2Ideal.Gen Idealize.ShloMosaic Idealize.ShloMosaic.TcCoe Idealize.SL.Sem
open Cert.Ffn (Args Block)

/-- The two mixers' rows side by side. -/
def rCat (a : Args) : FVec Ideal S32768x1024 .bf16 :=
  concatenate S32768x1024 1 [⟨S32768x512, a.ya⟩, ⟨S32768x512, a.yb⟩] concatenates_S32768x512_S32768x512_S32768x1024_d1

/-- The residual stream after the output projection of the rows `y`, by sequence. -/
def rRes (a : Args) (y : FVec Ideal S32768x1024 .bf16) : FVec Ideal S16x2048x1024 .f32 :=
  addf (shapeCast _ a.x shapeCasts_S32768x1024_S16x2048x1024) (Host.dotGeneral dot_S16x2048x1024_S1024x1024_S16x2048x1024_2_0_01_1_n_n none (extf .f32 (shapeCast _ y shapeCasts_S32768x1024_S16x2048x1024) bitsLt_bf16_f32) a.wo)

/-- The residual stream after the output projection, by sequence. -/
def rX1 (a : Args) : FVec Ideal S16x2048x1024 .f32 := rRes a (rCat a)

/-- The normalised rows. -/
def rH (g : FVec Ideal S1024 .f32) (v : FVec Ideal S16x2048x1024 .f32) : FVec Ideal S16x2048x1024 .f32 :=
  mulf (mulf v (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf v v) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))

/-- The widened rows, a row of zeros before and after each sequence. -/
def rPad (a : Block) (h : FVec Ideal S16x2048x1024 .f32) : FVec Ideal S16x2050x5632 .f32 :=
  pad S16x2050x5632 ![0, 1, 0] ![0, 1, 0] ![0, 0, 0] (Host.dotGeneral dot_S16x2048x1024_S1024x5632_S16x2048x5632_2_0_01_1_n_n none h a.wup) (sitofp .f32 (constantI S_ 32 0#32)) pads_S16x2048x5632_S16x2050x5632_000_110_000 h_S_

/-- The convolution. -/
def rConv (a : Block) (u : FVec Ideal S16x2050x5632 .f32) : FVec Ideal S16x2048x5632 .f32 :=
  addf (addf (addf (broadcastInDim S16x2048x5632 ![0, 1, 2] bcast_S1x1x5632_S16x2048x5632_0_1_2 (broadcastInDim S1x1x5632 ![2] bcast_S5632_S1x1x5632_2 a.cb))
    (mulf (extractStridedSlice S16x2048x5632 ![0, 0, 0] u slices_S16x2050x5632_S16x2048x5632_0_0_0) (broadcastInDim S16x2048x5632 ![0, 1, 2] bcast_S1x1x5632_S16x2048x5632_0_1_2 (broadcastInDim S1x1x5632 ![2] bcast_S5632_S1x1x5632_2 (shapeCast _ (extractStridedSlice S1x5632 ![0, 0] a.cw slices_S3x5632_S1x5632_0_0) shapeCasts_S1x5632_S5632)))))
    (mulf (extractStridedSlice S16x2048x5632 ![0, 1, 0] u slices_S16x2050x5632_S16x2048x5632_0_1_0) (broadcastInDim S16x2048x5632 ![0, 1, 2] bcast_S1x1x5632_S16x2048x5632_0_1_2 (broadcastInDim S1x1x5632 ![2] bcast_S5632_S1x1x5632_2 (shapeCast _ (extractStridedSlice S1x5632 ![1, 0] a.cw slices_S3x5632_S1x5632_1_0) shapeCasts_S1x5632_S5632)))))
    (mulf (extractStridedSlice S16x2048x5632 ![0, 2, 0] u slices_S16x2050x5632_S16x2048x5632_0_2_0) (broadcastInDim S16x2048x5632 ![0, 1, 2] bcast_S1x1x5632_S16x2048x5632_0_1_2 (broadcastInDim S1x1x5632 ![2] bcast_S5632_S1x1x5632_2 (shapeCast _ (extractStridedSlice S1x5632 ![2, 0] a.cw slices_S3x5632_S1x5632_2_0) shapeCasts_S1x5632_S5632))))

/-- The gated activation. -/
def rAct (c : FVec Ideal S16x2048x5632 .f32) : FVec Ideal S16x2048x2816 .f32 :=
  mulf (mulf (extractStridedSlice S16x2048x2816 ![0, 0, 0] c slices_S16x2048x5632_S16x2048x2816_0_0_0)
    (Host.divf (broadcastInDim S16x2048x2816 ![] bcast_S_S16x2048x2816 (constant S_ .f32 0x3F800000#32))
      (addf (broadcastInDim S16x2048x2816 ![] bcast_S_S16x2048x2816 (constant S_ .f32 0x3F800000#32)) (Host.exp (Host.negf (extractStridedSlice S16x2048x2816 ![0, 0, 0] c slices_S16x2048x5632_S16x2048x2816_0_0_0))))))
    (extractStridedSlice S16x2048x2816 ![0, 0, 2816] c slices_S16x2048x5632_S16x2048x2816_0_0_2816)

/-- The feed-forward block over the residual stream `x`. -/
def rBlock (a : Block) (x : FVec Ideal S16x2048x1024 .f32) : FVec Ideal S16x2048x1024 .f32 :=
  addf x (Host.dotGeneral dot_S16x2048x2816_S2816x1024_S16x2048x1024_2_0_01_1_n_n none (rAct (rConv a (rPad a (rH a.g x)))) a.wdn)

/-- The rows of all sequences. -/
def rFlat (x : FVec Ideal S16x2048x1024 .f32) : FVec Ideal S32768x1024 .f32 := shapeCast _ x shapeCasts_S16x2048x1024_S32768x1024

variable (m : (ℓ : Loc nD τ sig) → Buf (Elt Ideal) ℓ)

/-- The arguments as the launch leaves them. -/
abbrev argsOf (c : Dev nD) : Args where
  x := m ((c.tc : Thread nD τ).loc main_arg0)
  ya := m ((c.tc : Thread nD τ).loc main_arg1)
  yb := m ((c.tc : Thread nD τ).loc main_arg2)
  wo := m ((c.tc : Thread nD τ).loc main_arg3)
  g := m ((c.tc : Thread nD τ).loc main_arg4)
  wup := m ((c.tc : Thread nD τ).loc main_arg5)
  cw := m ((c.tc : Thread nD τ).loc main_arg6)
  cb := m ((c.tc : Thread nD τ).loc main_arg7)
  wdn := m ((c.tc : Thread nD τ).loc main_arg8)

theorem res_eq (c : Dev nD) : res_main_v50 (F := Ideal) m c = rFlat (rBlock (argsOf m c).block (rX1 (argsOf m c))) := by
  unfold res_main_v50 rFlat rBlock rAct rConv rPad rH rX1 rRes rCat
  rfl

theorem rCat_at (a : Args) (n : Fin 32768) (e : Fin 1024) :
    rCat a (ix2 n e) = if h : e.val < 512 then a.ya (ix2 n ⟨e, h⟩) else a.yb (ix2 n ⟨e - 512, by omega⟩) := by
  pointwise [rCat]

theorem rRes_at (a : Args) (y : FVec Ideal S32768x1024 .bf16) (b : Fin 16) (s : Fin 2048) (j : Fin 1024) :
    rRes a y (ix3 b s j) = a.x (ix2 ⟨b * 2048 + s, by omega⟩ j) + ∑ e : Fin 1024, y (ix2 ⟨b * 2048 + s, by omega⟩ e) * a.wo (ix2 e j) := by
  pointwise [rRes]

theorem rX1_at (a : Args) (b : Fin 16) (s : Fin 2048) (j : Fin 1024) :
    rX1 a (ix3 b s j) = Cert.Ffn.x1 a ⟨b * 2048 + s, by omega⟩ j := by
  unfold rX1 Cert.Ffn.x1
  refine (rRes_at a _ b s j).trans (Ideal.add_congr rfl ?_)
  rw [Fin.sum_univ_two_halves 512 512 rfl]
  refine Ideal.add_congr (Finset.sum_congr rfl fun e _ => Ideal.mul_congr ((rCat_at a _ _).trans ?_) rfl)
    (Finset.sum_congr rfl fun e _ => Ideal.mul_congr ((rCat_at a _ _).trans ?_) rfl)
  · rw [dif_pos e.isLt]
  · rw [dif_neg (by simp)]
    congr 2
    simp

theorem rH_at (g : FVec Ideal S1024 .f32) (v : FVec Ideal S16x2048x1024 .f32) (b : Fin 16) (s : Fin 2048) (j : Fin 1024) :
    rH g v (ix3 b s j) = Cert.Ffn.rms (fun k => v (ix3 b s k)) (v (ix3 b s j)) (g (ix1 j)) := by
  pointwise [rH, Cert.Ffn.rms]

theorem rPad_at (a : Block) (h : FVec Ideal S16x2048x1024 .f32) (b : Fin 16) (s : Fin 2050) (f : Fin 5632) :
    rPad a h (ix3 b s f) = if hs : 1 ≤ s.val ∧ s.val - 1 < 2048 then ∑ d : Fin 1024, h (ix3 b ⟨s.val - 1, hs.2⟩ d) * a.wup (ix2 d f) else 0 := by
  pointwise [rPad]
  refine dite_congr rfl (fun _ => rfl) fun _ => ?_
  show (((0#32 : BitVec 32).toInt : ℝ) : EReal) = 0
  simp

theorem rConv_at (a : Block) (u : FVec Ideal S16x2050x5632 .f32) (b : Fin 16) (s : Fin 2048) (f : Fin 5632) :
    rConv a u (ix3 b s f) = a.cb (ix1 f) + u (ix3 b ⟨s, by omega⟩ f) * a.cw (ix2 0 f) + u (ix3 b ⟨1 + s, by omega⟩ f) * a.cw (ix2 1 f)
      + u (ix3 b ⟨2 + s, by omega⟩ f) * a.cw (ix2 2 f) := by
  pointwise [rConv]

theorem rAct_at (c : FVec Ideal S16x2048x5632 .f32) (b : Fin 16) (s : Fin 2048) (f : Fin 2816) :
    rAct c (ix3 b s f) = Cert.Ffn.silu (c (ix3 b s ⟨f, by omega⟩)) * c (ix3 b s ⟨2816 + f, by omega⟩) := by
  pointwise [rAct, Cert.Ffn.silu]

theorem rFlat_at (x : FVec Ideal S16x2048x1024 .f32) (n : Fin 32768) (j : Fin 1024) :
    rFlat x (ix2 n j) = x (ix3 ⟨n / 2048, by omega⟩ ⟨n % 2048, by omega⟩ j) := by
  pointwise [rFlat]

theorem rBlock_at (a : Block) (x : FVec Ideal S16x2048x1024 .f32) (b : Fin 16) (s : Fin 2048) (j : Fin 1024) :
    rBlock a x (ix3 b s j) = x (ix3 b s j) + ∑ f : Fin 2816, rAct (rConv a (rPad a (rH a.g x))) (ix3 b s f) * a.wdn (ix2 f j) := by
  pointwise [rBlock]

/-- The residual stream `x`, by sequence, holds the block's rows. -/
def Carries (a : Block) (x : FVec Ideal S16x2048x1024 .f32) : Prop :=
  ∀ (b : Fin 16) (s : Fin 2048) (j : Fin 1024), x (ix3 b s j) = a.res ⟨b * 2048 + s, by omega⟩ j

section
variable {a : Block} {x : FVec Ideal S16x2048x1024 .f32} (hx : Carries a x)
include hx

theorem rH_eq (b : Fin 16) (s : Fin 2048) (d : Fin 1024) : rH a.g x (ix3 b s d) = Cert.Ffn.hn a ⟨b * 2048 + s, by omega⟩ d := by
  rw [rH_at, hx b s d]
  unfold Cert.Ffn.hn
  congr 1
  exact funext fun k => hx b s k

/-- A padded row that carries a token is that token's widened row. -/
theorem rPad_row (b : Fin 16) (s : Fin 2050) (f : Fin 5632) (n : Fin 32768) (h0 : 1 ≤ s.val) (h1 : s.val - 1 < 2048)
    (hn : n.val = b.val * 2048 + (s.val - 1)) :
    rPad a (rH a.g x) (ix3 b s f) = Cert.Ffn.up a n f := by
  rw [rPad_at, dif_pos ⟨h0, h1⟩]
  refine Finset.sum_congr rfl fun d _ => Ideal.mul_congr ((rH_eq hx b _ d).trans ?_) rfl
  exact congrArg (Cert.Ffn.hn a · d) (Fin.ext hn.symm)

omit hx in
/-- The rows before the first and after the last are zero. -/
theorem rPad_edge (b : Fin 16) (s : Fin 2050) (f : Fin 5632) (h : ¬ (1 ≤ s.val ∧ s.val - 1 < 2048)) :
    rPad a (rH a.g x) (ix3 b s f) = 0 := by
  rw [rPad_at, dif_neg h]

theorem rConv_eq (b : Fin 16) (s : Fin 2048) (f : Fin 5632) :
    rConv a (rPad a (rH a.g x)) (ix3 b s f) = Cert.Ffn.conv a ⟨b * 2048 + s, by omega⟩ f := by
  rw [rConv_at]
  unfold Cert.Ffn.conv
  refine Ideal.add_congr (Ideal.add_congr (Ideal.add_congr rfl (Ideal.mul_congr ?_ rfl)) (Ideal.mul_congr ?_ rfl)) (Ideal.mul_congr ?_ rfl)
  · unfold Cert.Ffn.upPrev
    by_cases h : s.val = 0
    · rw [if_pos (by simp only; omega)]
      exact rPad_edge _ _ f (by simp only; omega)
    · rw [if_neg (by simp only; omega)]
      exact rPad_row hx _ _ f _ (by simp only; omega) (by simp only; omega) (by simp only; omega)
  · exact rPad_row hx _ _ f _ (by simp only; omega) (by simp only; omega) (by simp only; omega)
  · unfold Cert.Ffn.upNext
    by_cases h : s.val = 2047
    · rw [dif_pos (by simp only; omega)]
      exact rPad_edge _ _ f (by simp only; omega)
    · rw [dif_neg (by simp only; omega)]
      exact rPad_row hx _ _ f _ (by simp only; omega) (by simp only; omega) (by simp only; omega)

/-- The feed-forward block, entry by entry. -/
theorem rBlock_eq (b : Fin 16) (s : Fin 2048) (j : Fin 1024) : rBlock a x (ix3 b s j) = Cert.Ffn.out a ⟨b * 2048 + s, by omega⟩ j := by
  rw [rBlock_at, hx b s j]
  unfold Cert.Ffn.out
  refine Ideal.add_congr rfl (Finset.sum_congr rfl fun f _ => Ideal.mul_congr ?_ rfl)
  rw [rAct_at, rConv_eq hx, rConv_eq hx]
  rfl

end

/-- Row `n` lies at place `n % 2048` of sequence `n / 2048`. -/
theorem seq_row (n : Fin 32768) (h : n.val / 2048 * 2048 + n.val % 2048 < 32768) : (⟨n.val / 2048 * 2048 + n.val % 2048, h⟩ : Fin 32768) = n :=
  Fin.ext (Nat.div_add_mod' n.val 2048)

theorem res_out (c : Dev nD) :
    res_main_v50 (F := Ideal) m c = fun i : S32768x1024.Idx => Cert.Ffn.out (argsOf m c).block (i 0) (i 1) := by
  rw [res_eq]
  funext i
  idx_vars i
  rw [rFlat_at, rBlock_eq (fun b s j => rX1_at _ b s j)]
  exact congrArg (Cert.Ffn.out (argsOf m c).block · _) (seq_row _ _)

end Cert.Reference2Ideal.Value

end
-- ==== Proof.Ffn.LastSpec.lean ====
/- The call of the last layer, at coordinates: the retention mixer's rows come with each head padded from 192 columns to 256, and
   the result is normalised once more. -/
module

public import proofs.«01_k».proof.Proof.Ffn.Spec

@[expose] public section

noncomputable section

namespace Cert.Ffn

open Idealize.ShloMosaic

/-- The arguments of the call in the last layer: the token rows, the retention mixer's padded rows, the state space's rows, and
    the weights as in `Args`; the last one is the final norm's gain. -/
structure OddArgs where
  x : FVec Ideal ⟨2, ![32768, 1024]⟩ .f32
  ya : FVec Ideal ⟨2, ![32768, 1024]⟩ .bf16
  yb : FVec Ideal ⟨2, ![32768, 256]⟩ .bf16
  wo : FVec Ideal ⟨2, ![1024, 1024]⟩ .f32
  g : FVec Ideal ⟨1, ![1024]⟩ .f32
  wup : FVec Ideal ⟨2, ![1024, 5632]⟩ .f32
  cw : FVec Ideal ⟨2, ![3, 5632]⟩ .f32
  cb : FVec Ideal ⟨1, ![5632]⟩ .f32
  wdn : FVec Ideal ⟨2, ![2816, 1024]⟩ .f32
  gf : FVec Ideal ⟨1, ![1024]⟩ .f32

/-- Where column `e` of the four heads of 192 lies among their padded columns. -/
def padCol (e : Fin 768) : Fin 1024 := ⟨e.val / 192 * 256 + e.val % 192, by omega⟩

/-- The residual after the output projection. -/
def x1o (a : OddArgs) (n : Fin 32768) (c : Fin 1024) : EReal :=
  a.x (ix2 n c) + (∑ e : Fin 768, a.ya (ix2 n (padCol e)) * a.wo (ix2 ⟨e, by omega⟩ c)
    + ∑ e : Fin 256, a.yb (ix2 n e) * a.wo (ix2 ⟨768 + e, by omega⟩ c))

/-- The feed-forward block behind that residual. -/
def OddArgs.block (a : OddArgs) : Block := ⟨x1o a, a.g, a.wup, a.cw, a.cb, a.wdn⟩

/-- The normalised result row. -/
def fin (a : OddArgs) (n : Fin 32768) (c : Fin 1024) : EReal := rms (out a.block n) (out a.block n c) (a.gf (ix1 c))

/-- A sum over `n` padded heads whose entries vanish on the padding is the sum over the heads' own columns. -/
theorem sum_heads (F : ℕ → EReal) (h : ∀ k, 192 ≤ k % 256 → F k = 0) (n : ℕ) :
    ∑ k ∈ Finset.range (n * 256), F k = ∑ e ∈ Finset.range (n * 192), F (e / 192 * 256 + e % 192) := by
  induction n with
  | zero => simp
  | succ n ih =>
    rw [Nat.succ_mul, Nat.succ_mul, Finset.sum_range_add, Finset.sum_range_add, ih]
    refine congrArg₂ (· + ·) rfl ?_
    rw [show (256 : ℕ) = 192 + 64 from rfl, Finset.sum_range_add]
    have hz : ∑ x ∈ Finset.range 64, F (n * (192 + 64) + (192 + x)) = 0 :=
      Finset.sum_eq_zero fun x hx => h _ (by have := Finset.mem_range.mp hx; omega)
    rw [hz, add_zero]
    exact Finset.sum_congr rfl fun x hx => congrArg F (by have := Finset.mem_range.mp hx; omega)

/-- The same for the four heads. -/
theorem sum_padded (f : Fin 1024 → EReal) (h : ∀ k : Fin 1024, 192 ≤ k.val % 256 → f k = 0) :
    ∑ k, f k = ∑ e : Fin 768, f (padCol e) := by
  have key := sum_heads (fun k => if hk : k < 1024 then f ⟨k, hk⟩ else 0) (fun k hk => by
    by_cases hk' : k < 1024
    · exact (dif_pos hk').trans (h _ hk)
    · exact dif_neg hk') 4
  rw [Finset.sum_range, Finset.sum_range] at key
  refine Eq.trans (Finset.sum_congr rfl fun k _ => ?_) (key.trans (Finset.sum_congr rfl fun e _ => ?_))
  · rw [dif_pos k.isLt]
  · exact (dif_pos (padCol e).isLt : (if hk : (padCol e).val < 1024 then f ⟨(padCol e).val, hk⟩ else 0) = _)

end Cert.Ffn

end
-- ==== Proof.Ffn.LastTile.lean ====
/- The last layer's tile: what differs from the even layers' one, at coordinates. -/
module

public import proofs.«01_k».proof.Proof.Gen.Kernel3Ideal.Skeleton
public import proofs.«01_k».proof.Proof.Ffn.Tile
public import proofs.«01_k».proof.Proof.Ffn.LastSpec

@[expose] public section

set_option maxRecDepth 16384

noncomputable section

namespace Cert.Kernel3Ideal.Value

open Cert.Kernel3Ideal Cert.Kernel3Ideal.Gen Idealize.ShloMosaic Idealize.SL.Sem
open Cert.Kernel2Ideal.Value (outsideT maskT normT)

section Stages
variable {F : FTy → Type} [FloatOps F]

/-- The state space's rows of a tile with the sixteen before and after it. -/
def catT (p : FVec F S16x256 .bf16) (q : FVec F S1024x256 .bf16) (n : FVec F S16x256 .bf16) : FVec F S1056x256 .bf16 :=
  concatenate S1056x256 0 [⟨S16x256, p⟩, ⟨S1024x256, q⟩, ⟨S16x256, n⟩] concatenates_S16x256_S1024x256_S16x256_S1056x256_d0

/-- The residual after the output projection, over the rows `x` with the two mixers' rows `ya` and `yb`. -/
def resT (x : FVec F S1056x1024 .f32) (ya : FVec F S1056x1024 .bf16) (wa : FVec F S1024x1024 .bf16) (yb : FVec F S1056x256 .bf16)
    (wb : FVec F S256x1024 .bf16) : FVec F S1056x1024 .f32 :=
  addf (addf x (matmul dot_S1056x1024_S1024x1024_S1056x1024_1_0_0_1_n_n none ya (shapeCast S1024x1024 wa shapeCasts_S1024x1024_S1024x1024)
      (constant S1056x1024 .f32 0x00000000#32)))
    (matmul dot_S1056x256_S256x1024_S1056x1024_1_0_0_1_n_n none yb (shapeCast S256x1024 wb shapeCasts_S256x1024_S256x1024)
      (constant S1056x1024 .f32 0x00000000#32))

/-- The final norm of a tile. -/
def finT (s : FVec F S1024x1024 .f32) (g : FVec F S1x1024 .f32) : FVec F S1024x1024 .f32 :=
  mulf (mulf s (broadcastTo S1024x1024 (rsqrt (addf (divf (shapeCast S1024x1
      (multiReduction .add [1] S1024 (mulf s s) 0x00000000#32 reduces_S1024x1024_S1024 (.inl rfl) rfl) shapeCasts_S1024_S1024x1)
      (broadcast S1024x1 (Scalar.ofBits .f32 0x44800000#32))) (broadcast S1024x1 (Scalar.ofBits .f32 0x358637BD#32))))
      broadcasts_S1024x1_S1024x1024))
    (broadcastTo S1024x1024 (shapeCast S1x1024 g shapeCasts_S1x1024_S1x1024) broadcasts_S1x1024_S1024x1024)

theorem pay1_eq (x : FVec F S1056x1024 .f32) (d0 d1 : FVec F S1024x1024 .f32) (a : FVec F S1024x768 .bf16)
    (w : FVec F S768x1024 .bf16) (g : FVec F S1x1024 .f32) :
    k0_pay1 x d0 d1 a w g = finT (Cert.Kernel2Ideal.Gen.k0_pay1 x d0 d1 a w) g := rfl

theorem pay4_eq (x : FVec F S1056x1024 .f32) (ya : FVec F S1056x1024 .bf16) (wa : FVec F S1024x1024 .bf16) (p n : FVec F S16x256 .bf16)
    (q : FVec F S1024x256 .bf16) (wb : FVec F S256x1024 .bf16) :
    k0_pay4 x ya wa p q n wb = resT x ya wa (catT p q n) wb := rfl

end Stages

/-- Rows of three blocks on top of each other. -/
theorem pay3_at (p n : FVec Ideal S16x1024 .bf16) (q : FVec Ideal S1024x1024 .bf16) (e : Fin 1056) (c : Fin 1024) :
    k0_pay3 p q n (ix2 e c) = if h : e.val < 16 then p (ix2 ⟨e, h⟩ c) else if h' : e.val < 1040 then q (ix2 ⟨e - 16, by omega⟩ c)
      else n (ix2 ⟨e - 1040, by omega⟩ c) := by
  pointwise [k0_pay3]
  by_cases h : e.val < 16
  · rw [dif_pos h, dif_pos h]
  · rw [dif_neg h, dif_neg h]
    by_cases h' : e.val < 1040
    · rw [dif_pos h', dif_pos (by omega)]
    · rw [dif_neg h', dif_neg (by omega)]
      exact congrArg (fun i => n (ix2 i c)) (Fin.ext (by simp only; omega))

theorem catT_at (p n : FVec Ideal S16x256 .bf16) (q : FVec Ideal S1024x256 .bf16) (e : Fin 1056) (c : Fin 256) :
    catT p q n (ix2 e c) = if h : e.val < 16 then p (ix2 ⟨e, h⟩ c) else if h' : e.val < 1040 then q (ix2 ⟨e - 16, by omega⟩ c)
      else n (ix2 ⟨e - 1040, by omega⟩ c) := by
  pointwise [catT]
  by_cases h : e.val < 16
  · rw [dif_pos h, dif_pos h]
  · rw [dif_neg h, dif_neg h]
    by_cases h' : e.val < 1040
    · rw [dif_pos h', dif_pos (by omega)]
    · rw [dif_neg h', dif_neg (by omega)]
      exact congrArg (fun i => n (ix2 i c)) (Fin.ext (by simp only; omega))

theorem resT_at (x : FVec Ideal S1056x1024 .f32) (ya : FVec Ideal S1056x1024 .bf16) (wa : FVec Ideal S1024x1024 .bf16) (yb : FVec Ideal S1056x256 .bf16)
    (wb : FVec Ideal S256x1024 .bf16) (e : Fin 1056) (c : Fin 1024) :
    resT x ya wa yb wb (ix2 e c) = x (ix2 e c) + (∑ k : Fin 1024, ya (ix2 e k) * wa (ix2 k c) + ∑ k : Fin 256, yb (ix2 e k) * wb (ix2 k c)) := by
  pointwise [resT]
  exact add_assoc _ _ _

theorem finT_at (s : FVec Ideal S1024x1024 .f32) (g : FVec Ideal S1x1024 .f32) (e c : Fin 1024) :
    finT s g (ix2 e c) = Cert.Ffn.rms (fun k => s (ix2 e k)) (s (ix2 e c)) (g (ix2 0 c)) := by
  pointwise [finT, Cert.Ffn.rms]

end Cert.Kernel3Ideal.Value

end
-- ==== Proof.Ffn.LastBlocks.lean ====
/- The last layer's blocks: which entries of the arguments each operand's block at a grid point holds. -/
module

public import proofs.«01_k».proof.Proof.Gen.Kernel3Ideal.Value
public import proofs.«01_k».proof.Proof.Ffn.Tokens
public import proofs.«01_k».proof.Proof.Ffn.LastSpec

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.StableHlo (TRef)
open Idealize.ShloMosaic.Pipeline (Dat)
open Cert.Ffn (OddArgs)
open Cert.Kernel2Ideal.Value (t_lt)

variable (m : (ℓ : Loc nD τ sig) → Buf (Elt Ideal) ℓ)

/-- The arguments as the launch leaves them. -/
abbrev argsOf (c : Dev nD) : OddArgs where
  x := m ((c.tc : Thread nD τ).loc main_arg0)
  ya := m ((c.tc : Thread nD τ).loc main_arg1)
  yb := m ((c.tc : Thread nD τ).loc main_arg2)
  wo := m ((c.tc : Thread nD τ).loc main_arg3)
  g := m ((c.tc : Thread nD τ).loc main_arg4)
  wup := m ((c.tc : Thread nD τ).loc main_arg5)
  cw := m ((c.tc : Thread nD τ).loc main_arg6)
  cb := m ((c.tc : Thread nD τ).loc main_arg7)
  wdn := m ((c.tc : Thread nD τ).loc main_arg8)
  gf := m ((c.tc : Thread nD τ).loc main_arg9)

/-- The block of each operand at point `t`: the tile, the sixteen rows before it, the sixteen rows after it. -/
theorem idx : ∀ t : Fin cfg0.N,
    win0_0.index t = ![t.val, 0] ∧ win0_1.index t = ![64 * t.val - 1, 0] ∧ win0_2.index t = ![min (64 * (t.val + 1)) 2047, 0]
    ∧ win0_3.index t = ![t.val, 0] ∧ win0_4.index t = ![64 * t.val - 1, 0] ∧ win0_5.index t = ![min (64 * (t.val + 1)) 2047, 0]
    ∧ win0_6.index t = ![t.val, 0] ∧ win0_7.index t = ![64 * t.val - 1, 0] ∧ win0_8.index t = ![min (64 * (t.val + 1)) 2047, 0]
    ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0] ∧ win0_17.index t = ![t.val, 0] :=
  (by decide +kernel : ∀ t : Fin grid0.N, _)

variable (c : Dev nD) (t : Fin cfg0.N)

/-- The output projection's first 768 rows, each head's 192 followed by 64 rows of zeros. -/
def padW (w : FVec Ideal S1024x1024 .f32) : FVec Ideal S1024x1024 .bf16 :=
  truncf .bf16 (shapeCast S1024x1024 (pad S4x256x1024 ![0, 0, 0] ![0, 64, 0] ![0, 0, 0]
    (shapeCast S4x192x1024 (extractStridedSlice S768x1024 ![0, 0] w slices_S1024x1024_S768x1024_0_0) shapeCasts_S768x1024_S4x192x1024)
    (sitofp .f32 (constantI S_ 32 0#32)) pads_S4x192x1024_S4x256x1024_000_0640_000 h_S_) shapeCasts_S4x256x1024_S1024x1024) bitsLt_bf16_f32

theorem padW_at (w : FVec Ideal S1024x1024 .f32) (e k : Fin 1024) :
    padW w (ix2 e k) = if h : e.val / 256 < 4 ∧ e.val % 256 < 192 then w (ix2 ⟨e.val / 256 * 192 + e.val % 256, by omega⟩ k) else 0 := by
  pointwise [padW]
  refine dite_congr rfl (fun _ => rfl) fun _ => ?_
  show (((0#32 : BitVec 32).toInt : ℝ) : EReal) = 0
  simp

/-- A vector as one row. -/
theorem row_at (v : FVec Ideal S5632 .f32) (k : Fin 5632) : (shapeCast S1x5632 v shapeCasts_S5632_S1x5632 : FVec Ideal S1x5632 .f32) (ix2 0 k) = v (ix1 k) := by
  pointwise []

/-! What the host code leaves in the operands that it prepares. -/

theorem host4 : V m c main_v4 = padW (m ((c.tc : Thread nD τ).loc main_arg3)) := by
  unfold V padW
  simp only [List.flatten_cons, List.flatten_nil, List.append_nil, List.cons_append, List.nil_append, TRef.binary, TRef.unary, TRef.toBuf,
    TRef.ofBuf, cast_eq]
  after_results_simp <;> rfl

theorem host6 : V m c main_v6 = (truncf .bf16 (extractStridedSlice S256x1024 ![768, 0] (m ((c.tc : Thread nD τ).loc main_arg3)) slices_S1024x1024_S256x1024_768_0) bitsLt_bf16_f32 : FVec Ideal S256x1024 .bf16) := by
  unfold V
  simp only [List.flatten_cons, List.flatten_nil, List.append_nil, List.cons_append, List.nil_append, TRef.binary, TRef.unary, TRef.toBuf,
    TRef.ofBuf, cast_eq]
  after_results_simp <;> rfl

theorem host7 : V m c main_v7 = (shapeCast S1x1024 (m ((c.tc : Thread nD τ).loc main_arg4)) shapeCasts_S1024_S1x1024 : FVec Ideal S1x1024 .f32) := by
  unfold V
  simp only [List.flatten_cons, List.flatten_nil, List.append_nil, List.cons_append, List.nil_append, TRef.binary, TRef.unary, TRef.toBuf,
    TRef.ofBuf, cast_eq]
  after_results_simp <;> rfl

theorem host9 : V m c main_v9 = (shapeCast S1x5632 (m ((c.tc : Thread nD τ).loc main_arg7)) shapeCasts_S5632_S1x5632 : FVec Ideal S1x5632 .f32) := by
  unfold V
  simp only [List.flatten_cons, List.flatten_nil, List.append_nil, List.cons_append, List.nil_append, TRef.binary, TRef.unary, TRef.toBuf,
    TRef.ofBuf, cast_eq]
  after_results_simp <;> rfl

theorem host11 : V m c main_v11 = (shapeCast S1x1024 (m ((c.tc : Thread nD τ).loc main_arg9)) shapeCasts_S1024_S1x1024 : FVec Ideal S1x1024 .f32) := by
  unfold V
  simp only [List.flatten_cons, List.flatten_nil, List.append_nil, List.cons_append, List.nil_append, TRef.binary, TRef.unary, TRef.toBuf,
    TRef.ofBuf, cast_eq]
  after_results_simp <;> rfl

theorem blk0 (r : Fin 1024) (k : Fin 1024) :
    iblk m c 0 t (ix2 r k) = (argsOf m c).x (ix2 ⟨1024 * t.val + r.val, by have := t_lt t; omega⟩ k) := by
  blk_point [iblk, V, idx t]

theorem blk1 (p : Fin 16) (k : Fin 1024) :
    iblk m c 1 t (ix2 p k) = (argsOf m c).x (ix2 ⟨16 * (64 * t.val - 1) + p.val, by have := t_lt t; omega⟩ k) := by
  blk_point [iblk, V, idx t]

theorem blk2 (p : Fin 16) (k : Fin 1024) :
    iblk m c 2 t (ix2 p k) = (argsOf m c).x (ix2 ⟨16 * min (64 * (t.val + 1)) 2047 + p.val, by have := t_lt t; omega⟩ k) := by
  blk_point [iblk, V, idx t]

theorem blk3 (r : Fin 1024) (k : Fin 1024) :
    iblk m c 3 t (ix2 r k) = (argsOf m c).ya (ix2 ⟨1024 * t.val + r.val, by have := t_lt t; omega⟩ k) := by
  blk_point [iblk, V, idx t]

theorem blk4 (p : Fin 16) (k : Fin 1024) :
    iblk m c 4 t (ix2 p k) = (argsOf m c).ya (ix2 ⟨16 * (64 * t.val - 1) + p.val, by have := t_lt t; omega⟩ k) := by
  blk_point [iblk, V, idx t]

theorem blk5 (p : Fin 16) (k : Fin 1024) :
    iblk m c 5 t (ix2 p k) = (argsOf m c).ya (ix2 ⟨16 * min (64 * (t.val + 1)) 2047 + p.val, by have := t_lt t; omega⟩ k) := by
  blk_point [iblk, V, idx t]

theorem blk6 (r : Fin 1024) (k : Fin 256) :
    iblk m c 6 t (ix2 r k) = (argsOf m c).yb (ix2 ⟨1024 * t.val + r.val, by have := t_lt t; omega⟩ k) := by
  blk_point [iblk, V, idx t]

theorem blk7 (p : Fin 16) (k : Fin 256) :
    iblk m c 7 t (ix2 p k) = (argsOf m c).yb (ix2 ⟨16 * (64 * t.val - 1) + p.val, by have := t_lt t; omega⟩ k) := by
  blk_point [iblk, V, idx t]

theorem blk8 (p : Fin 16) (k : Fin 256) :
    iblk m c 8 t (ix2 p k) = (argsOf m c).yb (ix2 ⟨16 * min (64 * (t.val + 1)) 2047 + p.val, by have := t_lt t; omega⟩ k) := by
  blk_point [iblk, V, idx t]

theorem blk9_all (e k : Fin 1024) : iblk m c 9 t (ix2 e k) = padW (m ((c.tc : Thread nD τ).loc main_arg3)) (ix2 e k) := by
  rw [← host4 m c]
  blk_point [iblk, idx t]

/-- The padding rows of the first output weights are zero. -/
theorem blk9_pad (e k : Fin 1024) (h : 192 ≤ e.val % 256) : iblk m c 9 t (ix2 e k) = (0 : EReal) := by
  refine (blk9_all m c t e k).trans ?_
  rw [padW_at, dif_neg (by omega)]

theorem blk9 (e : Fin 768) (k : Fin 1024) : iblk m c 9 t (ix2 (Cert.Ffn.padCol e) k) = (argsOf m c).wo (ix2 ⟨e, by omega⟩ k) := by
  refine (blk9_all m c t _ k).trans ?_
  unfold Cert.Ffn.padCol
  rw [padW_at, dif_pos (by simp only; omega)]
  exact congrArg (fun i => (argsOf m c).wo (ix2 i k)) (Fin.ext (by simp only; omega))

theorem blk10 (e : Fin 256) (k : Fin 1024) : iblk m c 10 t (ix2 e k) = (argsOf m c).wo (ix2 ⟨768 + e, by omega⟩ k) := by
  have h : iblk m c 10 t (ix2 e k) = V m c main_v6 (ix2 e k) := by blk_point [iblk, idx t]
  rw [h, host6]
  pointwise []

theorem blk11 (k : Fin 1024) : iblk m c 11 t (ix2 0 k) = (argsOf m c).g (ix1 k) := by
  have h : iblk m c 11 t (ix2 0 k) = V m c main_v7 (ix2 0 k) := by blk_point [iblk, idx t]
  rw [h, host7]
  pointwise []

theorem blk12 (e : Fin 1024) (k : Fin 5632) : iblk m c 12 t (ix2 e k) = (argsOf m c).wup (ix2 e k) := by
  blk_point [iblk, V, idx t]

theorem blk13 (e : Fin 3) (k : Fin 5632) : iblk m c 13 t (ix2 e k) = (argsOf m c).cw (ix2 e k) := by
  blk_point [iblk, V, idx t]

theorem blk14 (k : Fin 5632) : iblk m c 14 t (ix2 0 k) = (argsOf m c).cb (ix1 k) := by
  have h : iblk m c 14 t (ix2 0 k) = V m c main_v9 (ix2 0 k) := by blk_point [iblk, idx t]
  rw [h, host9]
  exact row_at _ k

theorem blk15 (e : Fin 2816) (k : Fin 1024) : iblk m c 15 t (ix2 e k) = (argsOf m c).wdn (ix2 e k) := by
  blk_point [iblk, V, idx t]

theorem blk16 (k : Fin 1024) : iblk m c 16 t (ix2 0 k) = (argsOf m c).gf (ix1 k) := by
  have h : iblk m c 16 t (ix2 0 k) = V m c main_v11 (ix2 0 k) := by blk_point [iblk, idx t]
  rw [h, host11]
  pointwise []

end Cert.Kernel3Ideal.Value

end
-- ==== Proof.Ffn.LastValue.lean ====
/- The last layer's kernel: what a grid point writes, and the array it leaves, entry by entry. -/
module

public import proofs.«01_k».proof.Proof.Ffn.Tokens
public import proofs.«01_k».proof.Proof.Ffn.Down
public import proofs.«01_k».proof.Proof.Ffn.LastTile
public import proofs.«01_k».proof.Proof.Ffn.LastBlocks

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)
open Cert.Ffn (OddArgs padCol sum_padded)
open Cert.Kernel2Ideal.Value (t_lt Inside cat_at pay2_at Holds rowsN tile_out out_block read_all read_768)

variable (m : (ℓ : Loc nD τ sig) → Buf (Elt Ideal) ℓ) (c : Dev nD) (t : Fin cfg0.N)

/-- The tile's residual rows with the sixteen rows before it and the sixteen after it. -/
def rowsX : FVec Ideal S1056x1024 .f32 :=
  k0_pay4 (k0_pay2 (iblk m c 1 t) (iblk m c 0 t) (iblk m c 2 t)) (k0_pay3 (iblk m c 4 t) (iblk m c 3 t) (iblk m c 5 t)) (iblk m c 9 t)
    (iblk m c 7 t) (iblk m c 6 t) (iblk m c 8 t) (iblk m c 10 t)

/-- A product with the padded output weights: the padding adds nothing. -/
theorem proj_padded (v : Fin 1024 → EReal) (k : Fin 1024) :
    ∑ d : Fin 1024, v d * iblk m c 9 t (ix2 d k) = ∑ e : Fin 768, v (padCol e) * (argsOf m c).wo (ix2 ⟨e, by omega⟩ k) := by
  refine (sum_padded (fun d => v d * iblk m c 9 t (ix2 d k)) fun d hd => ?_).trans
    (Finset.sum_congr rfl fun e _ => Ideal.mul_congr rfl (blk9 m c t e k))
  exact (Ideal.mul_congr rfl (blk9_pad m c t d k hd)).trans (mul_zero (v d))

theorem rowsX_at (e : Fin 1056) (n : Fin 32768) (hn : n.val + 16 = 1024 * t.val + e.val) (he : Inside t e) (k : Fin 1024) :
    rowsX m c t (ix2 e k) = Cert.Ffn.x1o (argsOf m c) n k := by
  unfold rowsX Cert.Ffn.x1o
  rw [pay4_eq, resT_at, proj_padded]
  refine Ideal.add_congr ?_ (Ideal.add_congr (Finset.sum_congr rfl fun d _ => Ideal.mul_congr ?_ rfl)
    (Finset.sum_congr rfl fun d _ => Ideal.mul_congr ?_ (blk10 m c t d k)))
  · refine (pay2_at _ _ _ e k).trans ?_
    exact cat_at t (fun n => (argsOf m c).x (ix2 n k)) (fun i => iblk m c 1 t (ix2 i k)) (fun i => iblk m c 0 t (ix2 i k)) (fun i => iblk m c 2 t (ix2 i k))
      (fun i => blk1 m c t i k) (fun i => blk0 m c t i k) (fun i => blk2 m c t i k) e n hn he
  · rw [pay3_at]
    exact cat_at t (fun n => (argsOf m c).ya (ix2 n (padCol d))) (fun i => iblk m c 4 t (ix2 i (padCol d))) (fun i => iblk m c 3 t (ix2 i (padCol d)))
      (fun i => iblk m c 5 t (ix2 i (padCol d))) (fun i => blk4 m c t i _) (fun i => blk3 m c t i _) (fun i => blk5 m c t i _) e n hn he
  · rw [catT_at]
    exact cat_at t (fun n => (argsOf m c).yb (ix2 n d)) (fun i => iblk m c 7 t (ix2 i d)) (fun i => iblk m c 6 t (ix2 i d)) (fun i => iblk m c 8 t (ix2 i d))
      (fun i => blk7 m c t i d) (fun i => blk6 m c t i d) (fun i => blk8 m c t i d) e n hn he

/-- The tile's operands hold the block's. -/
theorem holds : Holds (argsOf m c).block t (rowsX m c t) (iblk m c 11 t) (iblk m c 12 t) (iblk m c 13 t) (iblk m c 14 t) (iblk m c 15 t) :=
  ⟨fun e n hn he k => rowsX_at m c t e n hn he k, blk11 m c t, blk12 m c t, blk13 m c t, blk14 m c t, blk15 m c t⟩

/-- The result array's contents. -/
def result : FVec Ideal S32768x1024 .f32 := fun i => Cert.Ffn.fin (argsOf m c) (i 0) (i 1)

/-- The result's block at point `t` starts at row `1024 t`. -/
theorem emb_out (X : FVec Ideal S32768x1024 .f32) (r k : Fin 1024) :
    X (((View.whole main_v12).slice (win0_17.rect t)).emb (ix2 r k)) = X (ix2 ⟨1024 * t.val + r.val, by have := t_lt t; omega⟩ k) := by
  blk_point [idx t]

/-- The final norm over rows `s` that hold the block's result. -/
theorem fin_block (s : FVec Ideal S1024x1024 .f32) (r : Fin 1024)
    (h : ∀ k, s (ix2 r k) = Cert.Ffn.out (argsOf m c).block ⟨1024 * t.val + r.val, by have := t_lt t; omega⟩ k) (k : Fin 1024) :
    finT s (iblk m c 16 t) (ix2 r k) = Cert.Ffn.fin (argsOf m c) ⟨1024 * t.val + r.val, by have := t_lt t; omega⟩ k := by
  rw [finT_at, h k, blk16 m c t k]
  exact congrArg (Cert.Ffn.rms · _ _) (funext h)

/-- The array the launch leaves. -/
theorem final : (dats m 0 c).arrAt 17 (cfgs 0).N = result m c := by
  refine (dats m 0 c).arrAt_eq_of_covers 17 _ (by decide +kernel) fun t _ y => ?_
  blk_simp
  rw [after0_17]
  unfold outsAt0
  frame_out
  idx_vars y
  rw [emb_out t (result m c), pay1_eq]
  refine fin_block m c t _ y0 (fun k => ?_) y1
  exact Eq.trans (tile_out (rowsX m c t) (rowsN t (rowsX m c t) (iblk m c 11 t)) (iblk m c 12 t) (iblk m c 13 t) (iblk m c 14 t) (iblk m c 15 t)
    _ _ _ (fun r f => read_all _ _ _ r f) (fun r f => read_all _ _ _ r f) (fun r f => read_768 _ _ _ r f) _ _ _ y0 k) (out_block (holds m c t) y0 k)

end Cert.Kernel3Ideal.Value

end
-- ==== Proof.Ffn.LastRef.lean ====
/- The reference's composed term of the last layer's call is `Cert.Ffn.fin` at every index. -/
module

public import proofs.«01_k».proof.Proof.Gen.Reference3Ideal.Run
public import proofs.«01_k».proof.Proof.Ffn.Ref
public import proofs.«01_k».proof.Proof.Ffn.LastSpec

@[expose] public section

set_option maxRecDepth 16384

noncomputable section

namespace Cert.Reference3Ideal.Value

open Cert.Reference3Ideal Cert.Reference3Ideal.Gen Idealize.ShloMosaic Idealize.ShloMosaic.TcCoe Idealize.SL.Sem
open Cert.Ffn (OddArgs)
open Cert.Reference2Ideal.Value (rAct rConv rPad rH rBlock rFlat rH_at rFlat_at rBlock_eq Carries seq_row)

/-- The retention mixer's rows without their padding. -/
def rHeads (y : FVec Ideal S32768x1024 .bf16) : FVec Ideal S32768x768 .bf16 :=
  shapeCast _ (extractStridedSlice S32768x4x192 ![0, 0, 0] (shapeCast S32768x4x256 y shapeCasts_S32768x1024_S32768x4x256)
    slices_S32768x4x256_S32768x4x192_0_0_0) shapeCasts_S32768x4x192_S32768x768

/-- The two mixers' rows side by side. -/
def rCat (ya : FVec Ideal S32768x768 .bf16) (yb : FVec Ideal S32768x256 .bf16) : FVec Ideal S32768x1024 .bf16 :=
  concatenate S32768x1024 1 [⟨S32768x768, ya⟩, ⟨S32768x256, yb⟩] concatenates_S32768x768_S32768x256_S32768x1024_d1

/-- The residual stream after the output projection of the rows `y`, by sequence. -/
def rRes (a : OddArgs) (y : FVec Ideal S32768x1024 .bf16) : FVec Ideal S16x2048x1024 .f32 :=
  addf (shapeCast _ a.x shapeCasts_S32768x1024_S16x2048x1024) (Host.dotGeneral dot_S16x2048x1024_S1024x1024_S16x2048x1024_2_0_01_1_n_n none (extf .f32 (shapeCast _ y shapeCasts_S32768x1024_S16x2048x1024) bitsLt_bf16_f32) a.wo)

/-- The residual stream after the output projection, by sequence. -/
def rX1 (a : OddArgs) : FVec Ideal S16x2048x1024 .f32 := rRes a (rCat (rHeads a.ya) a.yb)

variable (m : (ℓ : Loc nD τ sig) → Buf (Elt Ideal) ℓ)

/-- The arguments as the launch leaves them. -/
abbrev argsOf (c : Dev nD) : OddArgs where
  x := m ((c.tc : Thread nD τ).loc main_arg0)
  ya := m ((c.tc : Thread nD τ).loc main_arg1)
  yb := m ((c.tc : Thread nD τ).loc main_arg2)
  wo := m ((c.tc : Thread nD τ).loc main_arg3)
  g := m ((c.tc : Thread nD τ).loc main_arg4)
  wup := m ((c.tc : Thread nD τ).loc main_arg5)
  cw := m ((c.tc : Thread nD τ).loc main_arg6)
  cb := m ((c.tc : Thread nD τ).loc main_arg7)
  wdn := m ((c.tc : Thread nD τ).loc main_arg8)
  gf := m ((c.tc : Thread nD τ).loc main_arg9)

theorem res_eq (c : Dev nD) :
    res_main_v66 (F := Ideal) m c = rFlat (rH (argsOf m c).gf (rBlock (argsOf m c).block (rX1 (argsOf m c)))) := by
  unfold res_main_v66 rFlat rBlock rAct rConv rPad rH rX1 rRes rCat rHeads
  rfl

theorem rHeads_at (y : FVec Ideal S32768x1024 .bf16) (n : Fin 32768) (e : Fin 768) : rHeads y (ix2 n e) = y (ix2 n (Cert.Ffn.padCol e)) := by
  unfold Cert.Ffn.padCol
  pointwise [rHeads]

theorem rCat_at (ya : FVec Ideal S32768x768 .bf16) (yb : FVec Ideal S32768x256 .bf16) (n : Fin 32768) (e : Fin 1024) :
    rCat ya yb (ix2 n e) = if h : e.val < 768 then ya (ix2 n ⟨e, h⟩) else yb (ix2 n ⟨e - 768, by omega⟩) := by
  pointwise [rCat]

theorem rRes_at (a : OddArgs) (y : FVec Ideal S32768x1024 .bf16) (b : Fin 16) (s : Fin 2048) (j : Fin 1024) :
    rRes a y (ix3 b s j) = a.x (ix2 ⟨b * 2048 + s, by omega⟩ j) + ∑ e : Fin 1024, y (ix2 ⟨b * 2048 + s, by omega⟩ e) * a.wo (ix2 e j) := by
  pointwise [rRes]

theorem rX1_at (a : OddArgs) : Carries a.block (rX1 a) := by
  intro b s j
  unfold rX1
  refine (rRes_at a _ b s j).trans (Ideal.add_congr rfl ?_)
  rw [Fin.sum_univ_two_halves 768 256 rfl]
  refine Ideal.add_congr (Finset.sum_congr rfl fun e _ => Ideal.mul_congr ((rCat_at _ _ _ _).trans ?_) rfl)
    (Finset.sum_congr rfl fun e _ => Ideal.mul_congr ((rCat_at _ _ _ _).trans ?_) rfl)
  · rw [dif_pos e.isLt]
    exact rHeads_at _ _ _
  · rw [dif_neg (by simp)]
    congr 2
    simp

theorem res_out (c : Dev nD) : res_main_v66 (F := Ideal) m c = fun i : S32768x1024.Idx => Cert.Ffn.fin (argsOf m c) (i 0) (i 1) := by
  rw [res_eq]
  funext i
  idx_vars i
  have h : ∀ k, rBlock (argsOf m c).block (rX1 (argsOf m c)) (ix3 ⟨i0 / 2048, by omega⟩ ⟨i0 % 2048, by omega⟩ k) = Cert.Ffn.out (argsOf m c).block i0 k := fun k =>
    (rBlock_eq (rX1_at _) _ _ k).trans (congrArg (Cert.Ffn.out (argsOf m c).block · k) (seq_row _ _))
  rw [rFlat_at, rH_at, h i1]
  exact congrArg (Cert.Ffn.rms · _ _) (funext h)

end Cert.Reference3Ideal.Value

end
-- ==== Proof.Ffn.Layer1Value.lean ====
/- Layer 1's kernel: the last layer's without the norm at the end. What a grid point writes, and the array it leaves. -/
module

public import proofs.«01_k».proof.Proof.Gen.Kernel4Ideal.Value
public import proofs.«01_k».proof.Proof.Ffn.LastValue

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)
open Cert.Ffn (OddArgs)
open Cert.Kernel2Ideal.Value (t_lt Inside Holds rowsN tile_out out_block read_all read_768)

variable (m : (ℓ : Loc nD τ sig) → Buf (Elt Ideal) ℓ) (c : Dev nD) (t : Fin cfg0.N)

/-- The arguments as the launch leaves them. -/
abbrev argsOf : OddArgs := Cert.Kernel3Ideal.Value.argsOf m c

/-- The tile's residual rows with the sixteen rows before it and the sixteen after it. -/
abbrev rowsX : FVec Ideal S1056x1024 .f32 := Cert.Kernel3Ideal.Value.rowsX m c t

/-- The tile's operands hold the block's, as in the last layer: the two kernels prepare and fetch the same. -/
theorem holds : Holds (argsOf m c).block t (rowsX m c t) (iblk m c 11 t) (iblk m c 12 t) (iblk m c 13 t) (iblk m c 14 t) (iblk m c 15 t) :=
  Cert.Kernel3Ideal.Value.holds m c t

/-- The result array's contents. -/
def result : FVec Ideal S32768x1024 .f32 := fun i => Cert.Ffn.out (argsOf m c).block (i 0) (i 1)

/-- Where the result's block at point `t` lies. -/
theorem idx_out : ∀ t : Fin cfg0.N, win0_17.index t = ![t.val, 0] := (by decide +kernel : ∀ t : Fin grid0.N, _)

theorem emb_out (X : FVec Ideal S32768x1024 .f32) (r k : Fin 1024) :
    X (((View.whole main_v12).slice (win0_17.rect t)).emb (ix2 r k)) = X (ix2 ⟨1024 * t.val + r.val, by have := t_lt t; omega⟩ k) := by
  blk_point [idx_out t]

/-- The array the launch leaves. -/
theorem final : (dats m 0 c).arrAt 17 (cfgs 0).N = result m c := by
  refine (dats m 0 c).arrAt_eq_of_covers 17 _ (by decide +kernel) fun t _ y => ?_
  blk_simp
  rw [after0_17]
  unfold outsAt0
  frame_out
  idx_vars y
  rw [emb_out t (result m c)]
  exact Eq.trans (tile_out (rowsX m c t) (rowsN t (rowsX m c t) (iblk m c 11 t)) (iblk m c 12 t) (iblk m c 13 t) (iblk m c 14 t) (iblk m c 15 t)
    _ _ _ (fun r f => read_all _ _ _ r f) (fun r f => read_all _ _ _ r f) (fun r f => read_768 _ _ _ r f) _ _ _ y0 y1) (out_block (holds m c t) y0 y1)

end Cert.Kernel4Ideal.Value

end
-- ==== Proof.Ffn.Layer1Ref.lean ====
/- The reference's composed term of layer 1's call is `Cert.Ffn.out` at every index. -/
module

public import proofs.«01_k».proof.Proof.Gen.Reference4Ideal.Run
public import proofs.«01_k».proof.Proof.Ffn.LastRef

@[expose] public section

set_option maxRecDepth 16384

noncomputable section

namespace Cert.Reference4Ideal.Value

open Cert.Reference4Ideal Cert.Reference4Ideal.Gen Idealize.ShloMosaic Idealize.ShloMosaic.TcCoe Idealize.SL.Sem
open Cert.Ffn (OddArgs)
open Cert.Reference2Ideal.Value (rAct rConv rPad rH rBlock rFlat rFlat_at rBlock_eq seq_row)
open Cert.Reference3Ideal.Value (rHeads rCat rRes rX1 rX1_at)

variable (m : (ℓ : Loc nD τ sig) → Buf (Elt Ideal) ℓ)

/-- The arguments as the launch leaves them. -/
abbrev argsOf (c : Dev nD) : OddArgs where
  x := m ((c.tc : Thread nD τ).loc main_arg0)
  ya := m ((c.tc : Thread nD τ).loc main_arg1)
  yb := m ((c.tc : Thread nD τ).loc main_arg2)
  wo := m ((c.tc : Thread nD τ).loc main_arg3)
  g := m ((c.tc : Thread nD τ).loc main_arg4)
  wup := m ((c.tc : Thread nD τ).loc main_arg5)
  cw := m ((c.tc : Thread nD τ).loc main_arg6)
  cb := m ((c.tc : Thread nD τ).loc main_arg7)
  wdn := m ((c.tc : Thread nD τ).loc main_arg8)
  gf := m ((c.tc : Thread nD τ).loc main_arg9)

theorem res_eq (c : Dev nD) : res_main_v53 (F := Ideal) m c = rFlat (rBlock (argsOf m c).block (rX1 (argsOf m c))) := by
  unfold res_main_v53 rFlat rBlock rAct rConv rPad rH rX1 rRes rCat rHeads
  rfl

theorem res_out (c : Dev nD) : res_main_v53 (F := Ideal) m c = fun i : S32768x1024.Idx => Cert.Ffn.out (argsOf m c).block (i 0) (i 1) := by
  rw [res_eq]
  funext i
  idx_vars i
  rw [rFlat_at]
  exact (rBlock_eq (rX1_at _) _ _ i1).trans (congrArg (Cert.Ffn.out (argsOf m c).block · i1) (seq_row _ _))

end Cert.Reference4Ideal.Value

end
-- ==== Proof.In.Spec.lean ====
/- The input projections, at coordinates: row `n` of the token array normalised and multiplied with the projection's weights. The
   calls leave the columns in another order, with columns of zeros among them. -/
module

public import proofs.«01_k».proof.Proof.Ffn.Spec

@[expose] public section

noncomputable section

namespace Cert.In

open Idealize.ShloMosaic

/-- The arguments: the token rows, the norm's gain, the weights of the `N` columns. -/
structure Args (N : ℕ) where
  x : FVec Ideal ⟨2, ![32768, 1024]⟩ .f32
  g : FVec Ideal ⟨1, ![1024]⟩ .f32
  w : FVec Ideal ⟨2, ![1024, N]⟩ .f32

/-- The normalised row. -/
def hn {N : ℕ} (a : Args N) (n : Fin 32768) (d : Fin 1024) : EReal := Cert.Ffn.rms (fun k => a.x (ix2 n k)) (a.x (ix2 n d)) (a.g (ix1 d))

/-- Column `e` of the projected row. -/
def proj {N : ℕ} (a : Args N) (n : Fin 32768) (e : Fin N) : EReal := ∑ d : Fin 1024, hn a n d * a.w (ix2 d e)

/-- Where the even layers' column `e` of the result comes from: the two decay columns of 16 go behind the others. -/
def evenCol (e : Fin 3360) : Fin 3360 :=
  if e.val < 1536 then e else if h : e.val < 3328 then ⟨e.val + 32, by omega⟩ else ⟨e.val - 1792, by omega⟩

/-- The even layers' result: the columns, then 96 of zeros. -/
def evenOut (a : Args 3360) (n : Fin 32768) (e : Fin 3456) : EReal :=
  if h : e.val < 3360 then proj a n (evenCol ⟨e, h⟩) else 0

/-- Whether the odd layers' column `e` of the result is padding: the last 64 of each 256 of the values and gates. -/
def oddGap (e : Fin 3328) : Prop := 1024 ≤ e.val ∧ e.val < 3072 ∧ 192 ≤ e.val % 256

instance (e : Fin 3328) : Decidable (oddGap e) := inferInstanceAs (Decidable (_ ∧ _ ∧ _))

/-- Where the odd layers' column `e` of the result comes from. -/
def oddCol (e : Fin 3328) (h : ¬ oddGap e) : Fin 2816 :=
  if h1 : e.val < 1024 then ⟨e.val, by omega⟩ else if h3 : e.val < 3072 then ⟨1024 + (e.val - 1024) / 256 * 192 + e.val % 256, by
    unfold oddGap at h
    omega⟩
  else ⟨e.val - 512, by omega⟩

/-- The odd layers' result: zero in the padding. -/
def oddOut (a : Args 2816) (n : Fin 32768) (e : Fin 3328) : EReal := if h : oddGap e then 0 else proj a n (oddCol e h)

theorem evenCol_val (e : Fin 3360) :
    (evenCol e).val = if e.val < 1536 then e.val else if e.val < 3328 then e.val + 32 else e.val - 1792 := by
  unfold evenCol
  split
  · rfl
  split <;> rfl

theorem oddCol_val (e : Fin 3328) (h : ¬ oddGap e) :
    (oddCol e h).val = if e.val < 1024 then e.val else if e.val < 3072 then 1024 + (e.val - 1024) / 256 * 192 + e.val % 256 else e.val - 512 := by
  unfold oddCol
  split
  · rfl
  split <;> rfl

/-- A choice is `v` if both of its branches are. -/
theorem dite_to {α : Type} {p : Prop} [Decidable p] {f : p → α} {g : ¬p → α} {v : α} (hf : ∀ h, f h = v) (hg : ∀ h, g h = v) :
    dite p f g = v := by
  by_cases h : p
  · rw [dif_pos h, hf]
  · rw [dif_neg h, hg]

/-- Entries of one row agree where the columns have the same number. -/
theorem row_congr {n N : ℕ} {φ : FTy} (w : FVec Ideal ⟨2, ![n, N]⟩ φ) (d : Fin n) {k : ℕ} {hk : k < N} {k' : Fin N} (h : k = k'.val) :
    w (ix2 d ⟨k, hk⟩) = w (ix2 d k') := by
  subst h
  rfl

end Cert.In

end
-- ==== Proof.In.Even.lean ====
/- The even layers' input projection: the weights as the host code orders them, what a grid point writes, and the array it leaves. -/
module

public import proofs.«01_k».proof.Proof.Gen.Kernel5Ideal.Value
public import proofs.«01_k».proof.Proof.In.Spec

@[expose] public section

set_option maxRecDepth 16384

noncomputable section

namespace Cert.Kernel5Ideal.Value

open Cert.Kernel5Ideal Cert.Kernel5Ideal.Gen Idealize.ShloMosaic Idealize.ShloMosaic.TcCoe Idealize.SL.Sem
open Idealize.ShloMosaic.StableHlo (TRef)
open Idealize.ShloMosaic.Pipeline (Dat)
open Cert.In (Args evenCol evenCol_val dite_to row_congr)

/-! ## The weights -/

/-- The weights' columns in the kernel's order. -/
def permW (w : FVec Ideal S1024x3360 .f32) : FVec Ideal S1024x3360 .f32 :=
  concatenate S1024x3360 1 [⟨S1024x256, extractStridedSlice S1024x256 ![0, 0] w slices_S1024x3360_S1024x256_0_0⟩,
    ⟨S1024x256, extractStridedSlice S1024x256 ![0, 256] w slices_S1024x3360_S1024x256_0_256⟩,
    ⟨S1024x512, extractStridedSlice S1024x512 ![0, 512] w slices_S1024x3360_S1024x512_0_512⟩,
    ⟨S1024x512, extractStridedSlice S1024x512 ![0, 1024] w slices_S1024x3360_S1024x512_0_1024⟩,
    ⟨S1024x256, extractStridedSlice S1024x256 ![0, 1568] w slices_S1024x3360_S1024x256_0_1568⟩,
    ⟨S1024x256, extractStridedSlice S1024x256 ![0, 1824] w slices_S1024x3360_S1024x256_0_1824⟩,
    ⟨S1024x256, extractStridedSlice S1024x256 ![0, 2080] w slices_S1024x3360_S1024x256_0_2080⟩,
    ⟨S1024x512, extractStridedSlice S1024x512 ![0, 2336] w slices_S1024x3360_S1024x512_0_2336⟩,
    ⟨S1024x512, extractStridedSlice S1024x512 ![0, 2848] w slices_S1024x3360_S1024x512_0_2848⟩,
    ⟨S1024x16, extractStridedSlice S1024x16 ![0, 1536] w slices_S1024x3360_S1024x16_0_1536⟩,
    ⟨S1024x16, extractStridedSlice S1024x16 ![0, 1552] w slices_S1024x3360_S1024x16_0_1552⟩]
    concatenates_S1024x256_S1024x256_S1024x512_S1024x512_S1024x256_S1024x256_S1024x256_S1024x512_S1024x512_S1024x16_S1024x16_S1024x3360_d1

/-- and with 96 columns of zeros behind them. -/
def wideW (w : FVec Ideal S1024x3360 .f32) : FVec Ideal S1024x3456 .bf16 :=
  truncf .bf16 (pad S1024x3456 ![0, 0] ![0, 96] ![0, 0] (permW w) (sitofp .f32 (constantI S_ 32 0#32)) pads_S1024x3360_S1024x3456_000_0960 h_S_)
    bitsLt_bf16_f32

theorem permW_at (w : FVec Ideal S1024x3360 .f32) (d : Fin 1024) (e : Fin 3360) : permW w (ix2 d e) = w (ix2 d (evenCol e)) := by
  pointwise [permW]
  repeat' (refine dite_to (fun h => ?_) fun h => ?_)
  all_goals
    refine row_congr w d ?_
    rw [evenCol_val]
    split
    · omega
    split <;> omega

theorem wideW_at (w : FVec Ideal S1024x3360 .f32) (d : Fin 1024) (e : Fin 3456) :
    wideW w (ix2 d e) = if h : e.val < 3360 then w (ix2 d (evenCol ⟨e, h⟩)) else 0 := by
  have h : wideW w (ix2 d e) = if h : e.val < 3360 then permW w (ix2 d ⟨e, h⟩) else 0 := by
    unfold wideW
    generalize permW w = p
    pointwise []
    refine dite_congr rfl (fun _ => rfl) fun _ => ?_
    show (((0#32 : BitVec 32).toInt : ℝ) : EReal) = 0
    simp
  rw [h]
  exact dite_congr rfl (fun _ => permW_at w d _) fun _ => rfl

/-! ## A tile -/

/-- A tile's rows times a strip of 384 columns. -/
theorem dot_at (h : FVec Ideal S512x1024 .bf16) (w : FVec Ideal S1024x384 .bf16) (r : Fin 512) (j : Fin 384) :
    k0_pay1 h w (ix2 r j) = ∑ d : Fin 1024, h (ix2 r d) * w (ix2 d j) := by
  pointwise [k0_pay1]

/-- The normalised rows. -/
theorem norm_at (x : FVec Ideal S512x1024 .f32) (g : FVec Ideal S1x1024 .f32) (r : Fin 512) (d : Fin 1024) :
    (k0_pay6 x g : FVec Ideal S512x1024 .bf16) (ix2 r d) = Cert.Ffn.rms (fun k => x (ix2 r k)) (x (ix2 r d)) (g (ix2 0 d)) := by
  pointwise [k0_pay6, Cert.Ffn.rms]

/-- The product of a tile's rows and the weights, before it is cut into strips. -/
def tileOut (h : FVec Ideal S512x1024 .bf16) (w : FVec Ideal S1024x3456 .bf16) : FVec Ideal S512x3456 .f32 :=
  fun i => ∑ d : Fin 1024, h (ix2 (i 0) d) * w (ix2 d (i 1))

/-- A strip at column `o` is that product's. -/
theorem strip_at (h : FVec Ideal S512x1024 .bf16) (w : FVec Ideal S1024x3456 .bf16) (o : ℕ)
    (inb : ∀ a, (![0, o] : Fin 2 → ℕ) a + S1024x384.size a ≤ S1024x3456.size a) (y : S512x3456.Idx) (x : S512x384.Idx)
    (hr : (y 0).val = (x 0).val) (he : (y 1).val = o + (x 1).val) :
    k0_pay1 h (View.ld w (Rect.unit (s := S1024x3456) ![0, o] S1024x384.size inb)) x = tileOut h w y := by
  idx_vars x
  idx_vars y
  rw [dot_at]
  refine Finset.sum_congr rfl fun d _ => Ideal.mul_congr ?_ ?_
  · exact congrArg (fun i => h (ix2 i d)) (Fin.ext hr.symm)
  · refine View.ld_unit_apply_of _ _ _ _ _ _ fun a => ?_
    match a with
    | ⟨0, _⟩ => exact (Nat.zero_add _).symm
    | ⟨1, _⟩ => exact he

theorem ld_x (x : Vec Ideal S512x1024 .f32) : View.ld x r0_0 = x := by
  funext y
  refine View.ld_unit_apply_of _ _ _ _ _ _ fun a => ?_
  match a with
  | ⟨0, _⟩ => exact (Nat.zero_add _).symm
  | ⟨1, _⟩ => exact (Nat.zero_add _).symm

theorem ld_g (g : Vec Ideal S1x1024 .f32) : View.ld g r0_1 = g := by
  funext y
  refine View.ld_unit_apply_of _ _ _ _ _ _ fun a => ?_
  match a with
  | ⟨0, _⟩ => exact (Nat.zero_add _).symm
  | ⟨1, _⟩ => exact (Nat.zero_add _).symm

/-- The nine strips are one product. -/
theorem out_at (x : FVec Ideal S512x1024 .f32) (g : FVec Ideal S1x1024 .f32) (w : FVec Ideal S1024x3456 .bf16) (y : S512x3456.Idx) :
    out0_3 (F := Ideal) x g w y = tileOut (k0_pay6 x g) w y := by
  unfold_out out0_3
  canon_tiles z h
  all_goals rw [ld_x, ld_g]
  · exact strip_at (k0_pay6 x g) w 3072 _ y z h0 h1
  · exact strip_at (k0_pay6 x g) w 2688 _ y z h0 h1
  · exact strip_at (k0_pay6 x g) w 2304 _ y z h0 h1
  · exact strip_at (k0_pay6 x g) w 1920 _ y z h0 h1
  · exact strip_at (k0_pay6 x g) w 1536 _ y z h0 h1
  · exact strip_at (k0_pay6 x g) w 1152 _ y z h0 h1
  · exact strip_at (k0_pay6 x g) w 768 _ y z h0 h1
  · exact strip_at (k0_pay6 x g) w 384 _ y z h0 h1
  · exact strip_at (k0_pay6 x g) w 0 _ y z h0 (h1.trans (Nat.zero_add _).symm)

/-! ## The blocks and the array -/

theorem t_lt (t : Fin cfg0.N) : t.val < 64 := t.isLt

/-- Point `t` works on the rows from `512 t` on, with the whole gain and all the weights. -/
theorem idx : ∀ t : Fin cfg0.N,
    win0_0.index t = ![t.val, 0] ∧ win0_1.index t = ![0, 0] ∧ win0_2.index t = ![0, 0] ∧ win0_3.index t = ![t.val, 0] :=
  (by decide +kernel : ∀ t : Fin grid0.N, _)

variable (m : (ℓ : Loc nD τ sig) → Buf (Elt Ideal) ℓ) (c : Dev nD) (t : Fin cfg0.N)

/-- The call's arguments. -/
abbrev argsOf : Args 3360 :=
  ⟨m ((c.tc : Thread nD τ).loc main_arg0), m ((c.tc : Thread nD τ).loc main_arg1), m ((c.tc : Thread nD τ).loc main_arg2)⟩

/-! What the host code leaves in the operands that it prepares. -/

theorem host13 : V m c main_v13 = wideW (m ((c.tc : Thread nD τ).loc main_arg2)) := by
  unfold V wideW permW
  simp only [List.flatten_cons, List.flatten_nil, List.append_nil, List.cons_append, List.nil_append, TRef.binary, TRef.unary, TRef.toBuf,
    TRef.ofBuf, cast_eq]
  after_results_simp <;> rfl

theorem host14 : V m c main_v14 = (shapeCast S1x1024 (m ((c.tc : Thread nD τ).loc main_arg1)) shapeCasts_S1024_S1x1024 : FVec Ideal S1x1024 .f32) := by
  unfold V
  simp only [List.flatten_cons, List.flatten_nil, List.append_nil, List.cons_append, List.nil_append, TRef.binary, TRef.unary, TRef.toBuf,
    TRef.ofBuf, cast_eq]
  after_results_simp <;> rfl

theorem blk0 (r : Fin 512) (k : Fin 1024) :
    iblk m c 0 t (ix2 r k) = (argsOf m c).x (ix2 ⟨512 * t.val + r.val, by have := t_lt t; omega⟩ k) := by
  blk_point [iblk, V, idx t]

theorem blk1 (k : Fin 1024) : iblk m c 1 t (ix2 0 k) = (argsOf m c).g (ix1 k) := by
  have h : iblk m c 1 t (ix2 0 k) = V m c main_v14 (ix2 0 k) := by blk_point [iblk, idx t]
  rw [h, host14]
  pointwise []

theorem blk2 (d : Fin 1024) (e : Fin 3456) :
    iblk m c 2 t (ix2 d e) = if h : e.val < 3360 then (argsOf m c).w (ix2 d (evenCol ⟨e, h⟩)) else (0 : EReal) := by
  have h : iblk m c 2 t (ix2 d e) = V m c main_v13 (ix2 d e) := by blk_point [iblk, idx t]
  rw [h, host13]
  exact wideW_at _ d e

/-- The result array's contents. -/
def result : FVec Ideal S32768x3456 .f32 := fun i => Cert.In.evenOut (argsOf m c) (i 0) (i 1)

/-- The result's block at point `t` starts at row `512 t`. -/
theorem emb_out (X : FVec Ideal S32768x3456 .f32) (r : Fin 512) (e : Fin 3456) :
    X (((View.whole main_v15).slice (win0_3.rect t)).emb (ix2 r e)) = X (ix2 ⟨512 * t.val + r.val, by have := t_lt t; omega⟩ e) := by
  blk_point [idx t]

/-- The tile's product is the result's rows: a column of zeros adds nothing. -/
theorem tile_eq (r : Fin 512) (e : Fin 3456) :
    tileOut (k0_pay6 (iblk m c 0 t) (iblk m c 1 t)) (iblk m c 2 t) (ix2 r e)
      = Cert.In.evenOut (argsOf m c) ⟨512 * t.val + r.val, by have := t_lt t; omega⟩ e := by
  have hn (d : Fin 1024) : (k0_pay6 (iblk m c 0 t) (iblk m c 1 t) : FVec Ideal S512x1024 .bf16) (ix2 r d)
      = Cert.In.hn (argsOf m c) ⟨512 * t.val + r.val, by have := t_lt t; omega⟩ d := by
    rw [norm_at, blk1 m c t d, blk0 m c t r d]
    exact congrArg (Cert.Ffn.rms · _ _) (funext fun k => blk0 m c t r k)
  refine (Finset.sum_congr rfl fun d _ => Ideal.mul_congr (hn d) (blk2 m c t d e)).trans ?_
  unfold Cert.In.evenOut
  by_cases h : e.val < 3360
  · rw [dif_pos h]
    exact Finset.sum_congr rfl fun d _ => Ideal.mul_congr rfl (dif_pos h)
  · rw [dif_neg h]
    exact Finset.sum_eq_zero fun d _ => (Ideal.mul_congr rfl (dif_neg h)).trans (mul_zero _)

/-- The array the launch leaves. -/
theorem final : (dats m 0 c).arrAt 3 (cfgs 0).N = result m c := by
  refine (dats m 0 c).arrAt_eq_of_covers 3 _ (by decide +kernel) fun t _ y => ?_
  blk_simp
  rw [after0_3]
  idx_vars y
  rw [emb_out t (result m c)]
  exact (out_at _ _ _ _).trans (tile_eq m c t y0 y1)

end Cert.Kernel5Ideal.Value

end
-- ==== Proof.In.EvenRef.lean ====
/- The reference's term of the even layers' input projection is `Cert.In.evenOut` at every index. -/
module

public import proofs.«01_k».proof.Proof.Gen.Reference5Ideal.Run
public import proofs.«01_k».proof.Proof.Ffn.Ref
public import proofs.«01_k».proof.Proof.In.Spec

@[expose] public section

set_option maxRecDepth 16384

noncomputable section

namespace Cert.Reference5Ideal.Value

open Cert.Reference5Ideal Cert.Reference5Ideal.Gen Idealize.ShloMosaic Idealize.ShloMosaic.TcCoe Idealize.SL.Sem
open Cert.In (Args evenCol evenCol_val dite_to)
open Cert.Reference2Ideal.Value (rH rH_at seq_row)

/-- The token rows by sequence. -/
def rSeq (x : FVec Ideal S32768x1024 .f32) : FVec Ideal S16x2048x1024 .f32 := shapeCast _ x shapeCasts_S32768x1024_S16x2048x1024

/-- The projected rows. -/
def rProj (h : FVec Ideal S16x2048x1024 .f32) (w : FVec Ideal S1024x3360 .f32) : FVec Ideal S16x2048x3360 .f32 :=
  Host.dotGeneral dot_S16x2048x1024_S1024x3360_S16x2048x3360_2_0_01_1_n_n none h w

/-- Its columns in the call's order, 96 columns of zeros behind them. -/
def rCols (p : FVec Ideal S16x2048x3360 .f32) : FVec Ideal S16x2048x3456 .f32 :=
  concatenate S16x2048x3456 2 [⟨S16x2048x3328, concatenate S16x2048x3328 2 [⟨S16x2048x1536, extractStridedSlice S16x2048x1536 ![0, 0, 0] p slices_S16x2048x3360_S16x2048x1536_0_0_0⟩,
      ⟨S16x2048x1792, extractStridedSlice S16x2048x1792 ![0, 0, 1568] p slices_S16x2048x3360_S16x2048x1792_0_0_1568⟩] concatenates_S16x2048x1536_S16x2048x1792_S16x2048x3328_d2⟩,
    ⟨S16x2048x32, extractStridedSlice S16x2048x32 ![0, 0, 1536] p slices_S16x2048x3360_S16x2048x32_0_0_1536⟩,
    ⟨S16x2048x96, broadcastInDim S16x2048x96 ![] bcast_S_S16x2048x96 (constant (F := Ideal) S_ .f32 0x00000000#32)⟩] concatenates_S16x2048x3328_S16x2048x32_S16x2048x96_S16x2048x3456_d2

/-- The rows of all sequences. -/
def rFlat (x : FVec Ideal S16x2048x3456 .f32) : FVec Ideal S32768x3456 .f32 := shapeCast _ x shapeCasts_S16x2048x3456_S32768x3456

/-- The whole term. -/
def rOut (a : Args 3360) : FVec Ideal S32768x3456 .f32 := rFlat (rCols (rProj (rH a.g (rSeq a.x)) a.w))

theorem rSeq_at (x : FVec Ideal S32768x1024 .f32) (b : Fin 16) (s : Fin 2048) (d : Fin 1024) :
    rSeq x (ix3 b s d) = x (ix2 ⟨b * 2048 + s, by omega⟩ d) := by
  pointwise [rSeq]

theorem rProj_at (h : FVec Ideal S16x2048x1024 .f32) (w : FVec Ideal S1024x3360 .f32) (b : Fin 16) (s : Fin 2048) (e : Fin 3360) :
    rProj h w (ix3 b s e) = ∑ d : Fin 1024, h (ix3 b s d) * w (ix2 d e) := by
  pointwise [rProj]

theorem rFlat_at (x : FVec Ideal S16x2048x3456 .f32) (n : Fin 32768) (e : Fin 3456) :
    rFlat x (ix2 n e) = x (ix3 ⟨n / 2048, by omega⟩ ⟨n % 2048, by omega⟩ e) := by
  pointwise [rFlat]

/-- Entries of one row agree where the columns have the same number. -/
theorem col_congr (p : FVec Ideal S16x2048x3360 .f32) (b : Fin 16) (s : Fin 2048) {k : ℕ} {hk : k < 3360} {k' : Fin 3360} (h : k = k'.val) :
    p (ix3 b s ⟨k, hk⟩) = p (ix3 b s k') := by
  subst h
  rfl

theorem rCols_at (p : FVec Ideal S16x2048x3360 .f32) (b : Fin 16) (s : Fin 2048) (e : Fin 3456) :
    rCols p (ix3 b s e) = if h : e.val < 3360 then p (ix3 b s (evenCol ⟨e, h⟩)) else 0 := by
  pointwise [rCols]
  by_cases h : e.val < 3360
  · rw [dif_pos h]
    refine dite_to (fun _ => dite_to (fun _ => ?_) fun _ => ?_) fun _ => dite_to (fun _ => ?_) fun _ => absurd h (by omega)
    all_goals
      refine col_congr p b s ?_
      rw [evenCol_val]
      dsimp only
      split <;> omega
  · rw [dif_neg h, dif_neg (by omega), dif_neg (by omega)]

/-- The projected row. -/
theorem rProj_eq (a : Args 3360) (n : Fin 32768) (e : Fin 3360) :
    rProj (rH a.g (rSeq a.x)) a.w (ix3 ⟨n / 2048, by omega⟩ ⟨n % 2048, by omega⟩ e) = Cert.In.proj a n e := by
  have hx (d : Fin 1024) : rSeq a.x (ix3 ⟨n / 2048, by omega⟩ ⟨n % 2048, by omega⟩ d) = a.x (ix2 n d) :=
    (rSeq_at _ _ _ _).trans (congrArg (fun n => a.x (ix2 n d)) (seq_row _ _))
  refine (rProj_at _ _ _ _ _).trans (Finset.sum_congr rfl fun d _ => Ideal.mul_congr ?_ rfl)
  rw [rH_at, hx d]
  exact congrArg (Cert.Ffn.rms · _ _) (funext hx)

theorem rOut_eq (a : Args 3360) : rOut a = fun i : S32768x3456.Idx => Cert.In.evenOut a (i 0) (i 1) := by
  funext i
  idx_vars i
  unfold rOut
  rw [rFlat_at, rCols_at]
  exact dite_congr rfl (fun _ => rProj_eq a i0 _) fun _ => rfl

variable (m : (ℓ : Loc nD τ sig) → Buf (Elt Ideal) ℓ)

/-- The arguments as the launch leaves them. -/
abbrev argsOf (c : Dev nD) : Args 3360 :=
  ⟨m ((c.tc : Thread nD τ).loc main_arg0), m ((c.tc : Thread nD τ).loc main_arg1), m ((c.tc : Thread nD τ).loc main_arg2)⟩

/-- The run leaves `Cert.In.evenOut`, and the arguments as they were. -/
theorem run_out (ρ : Dev nD → PrngReg) :
    θ_run defs (onTc (τ := τ) (main (F := Ideal))) ⟨m, fun _ => 0, ρ⟩ fun r => ∀ c : Dev nD,
      r.2.mem ((c.tc : Thread nD τ).loc main_v21) = (fun i : S32768x3456.Idx => Cert.In.evenOut (argsOf m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans (Eq.trans ?_ (rOut_eq (argsOf m c))), (h c).2⟩) (run m ρ)
  unfold rOut rFlat rCols rProj rSeq rH
  rfl

end Cert.Reference5Ideal.Value

end
-- ==== Proof.In.Odd.lean ====
/- The odd layers' input projection: the weights as the host code orders them, what a grid point writes, and the array it leaves. -/
module

public import proofs.«01_k».proof.Proof.Gen.Kernel6Ideal.Value
public import proofs.«01_k».proof.Proof.In.Even

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Idealize.ShloMosaic.StableHlo (TRef)
open Idealize.ShloMosaic.Pipeline (Dat)
open Cert.In (Args oddGap oddCol oddCol_val dite_to row_congr)

/-! ## The weights -/

/-- Four heads of 192 columns, each followed by 64 columns of zeros. -/
def gapW (v : FVec Ideal S1024x768 .f32) : FVec Ideal S1024x1024 .f32 :=
  shapeCast S1024x1024 (pad S1024x4x256 ![0, 0, 0] ![0, 0, 64] ![0, 0, 0] (shapeCast S1024x4x192 v shapeCasts_S1024x768_S1024x4x192)
    (sitofp .f32 (constantI S_ 32 0#32)) pads_S1024x4x192_S1024x4x256_000_000_0640 h_S_) shapeCasts_S1024x4x256_S1024x1024

/-- Queries and keys, values, gates, and the second mixer's columns side by side. -/
def joinW (q v g : FVec Ideal S1024x1024 .f32) (z : FVec Ideal S1024x256 .f32) : FVec Ideal S1024x3328 .bf16 :=
  truncf .bf16 (concatenate S1024x3328 1 [⟨S1024x1024, q⟩, ⟨S1024x1024, v⟩, ⟨S1024x1024, g⟩, ⟨S1024x256, z⟩]
    concatenates_S1024x1024_S1024x1024_S1024x1024_S1024x256_S1024x3328_d1) bitsLt_bf16_f32

/-- The weights as the kernel takes them. -/
def wideW (w : FVec Ideal S1024x2816 .f32) : FVec Ideal S1024x3328 .bf16 :=
  joinW (extractStridedSlice S1024x1024 ![0, 0] w slices_S1024x2816_S1024x1024_0_0)
    (gapW (extractStridedSlice S1024x768 ![0, 1024] w slices_S1024x2816_S1024x768_0_1024))
    (gapW (extractStridedSlice S1024x768 ![0, 1792] w slices_S1024x2816_S1024x768_0_1792))
    (extractStridedSlice S1024x256 ![0, 2560] w slices_S1024x2816_S1024x256_0_2560)

theorem gapW_at (v : FVec Ideal S1024x768 .f32) (d e : Fin 1024) :
    gapW v (ix2 d e) = if h : e.val % 256 < 192 then v (ix2 d ⟨e.val / 256 * 192 + e.val % 256, by omega⟩) else 0 := by
  pointwise [gapW]
  refine dite_congr (propext ⟨And.right, fun h => ⟨by omega, h⟩⟩) (fun _ => rfl) fun _ => ?_
  show (((0#32 : BitVec 32).toInt : ℝ) : EReal) = 0
  simp

theorem joinW_at (q v g : FVec Ideal S1024x1024 .f32) (z : FVec Ideal S1024x256 .f32) (d : Fin 1024) (e : Fin 3328) :
    joinW q v g z (ix2 d e) = if h : e.val < 1024 then q (ix2 d ⟨e, h⟩) else if h : e.val - 1024 < 1024 then v (ix2 d ⟨e - 1024, h⟩)
      else if h : e.val - 1024 - 1024 < 1024 then g (ix2 d ⟨e - 1024 - 1024, h⟩) else z (ix2 d ⟨e - 1024 - 1024 - 1024, by omega⟩) := by
  pointwise [joinW]

theorem slice0_at (w : FVec Ideal S1024x2816 .f32) (d e : Fin 1024) :
    extractStridedSlice S1024x1024 ![0, 0] w slices_S1024x2816_S1024x1024_0_0 (ix2 d e) = w (ix2 d ⟨e, by omega⟩) := by
  pointwise []

theorem slice1_at (w : FVec Ideal S1024x2816 .f32) (d : Fin 1024) (e : Fin 768) :
    extractStridedSlice S1024x768 ![0, 1024] w slices_S1024x2816_S1024x768_0_1024 (ix2 d e) = w (ix2 d ⟨1024 + e, by omega⟩) := by
  pointwise []

theorem slice2_at (w : FVec Ideal S1024x2816 .f32) (d : Fin 1024) (e : Fin 768) :
    extractStridedSlice S1024x768 ![0, 1792] w slices_S1024x2816_S1024x768_0_1792 (ix2 d e) = w (ix2 d ⟨1792 + e, by omega⟩) := by
  pointwise []

theorem slice3_at (w : FVec Ideal S1024x2816 .f32) (d : Fin 1024) (e : Fin 256) :
    extractStridedSlice S1024x256 ![0, 2560] w slices_S1024x2816_S1024x256_0_2560 (ix2 d e) = w (ix2 d ⟨2560 + e, by omega⟩) := by
  pointwise []

theorem wideW_at (w : FVec Ideal S1024x2816 .f32) (d : Fin 1024) (e : Fin 3328) :
    wideW w (ix2 d e) = if h : oddGap e then 0 else w (ix2 d (oddCol e h)) := by
  unfold wideW
  rw [joinW_at]
  simp only [gapW_at, slice0_at, slice1_at, slice2_at, slice3_at]
  by_cases h : oddGap e
  · rw [dif_pos h]
    unfold oddGap at h
    refine dite_to (fun _ => absurd h (by omega)) fun _ => dite_to (fun _ => dif_neg (by omega)) fun _ => dite_to (fun _ => dif_neg (by omega)) fun _ =>
      absurd h (by omega)
  · rw [dif_neg h]
    have h' := h
    unfold oddGap at h'
    refine dite_to (fun _ => ?_) fun _ => dite_to (fun _ => dite_to (fun _ => ?_) fun _ => absurd h' (by omega)) fun _ =>
      dite_to (fun _ => dite_to (fun _ => ?_) fun _ => absurd h' (by omega)) fun _ => ?_
    all_goals
      refine row_congr w d ?_
      rw [oddCol_val]
      split <;> first | omega | (split <;> omega)

/-! ## A tile -/

/-- A tile's rows times a strip of 256 columns. -/
theorem dot_at (h : FVec Ideal S512x1024 .bf16) (w : FVec Ideal S1024x256 .bf16) (r : Fin 512) (j : Fin 256) :
    k0_pay1 h w (ix2 r j) = ∑ d : Fin 1024, h (ix2 r d) * w (ix2 d j) := by
  pointwise [k0_pay1]

/-- The normalised rows. -/
theorem norm_at (x : FVec Ideal S512x1024 .f32) (g : FVec Ideal S1x1024 .f32) (r : Fin 512) (d : Fin 1024) :
    (k0_pay4 x g : FVec Ideal S512x1024 .bf16) (ix2 r d) = Cert.Ffn.rms (fun k => x (ix2 r k)) (x (ix2 r d)) (g (ix2 0 d)) :=
  Cert.Kernel5Ideal.Value.norm_at x g r d

/-- The product of a tile's rows and the weights, before it is cut into strips. -/
def tileOut (h : FVec Ideal S512x1024 .bf16) (w : FVec Ideal S1024x3328 .bf16) : FVec Ideal S512x3328 .f32 :=
  fun i => ∑ d : Fin 1024, h (ix2 (i 0) d) * w (ix2 d (i 1))

/-- A strip at column `o` is that product's. -/
theorem strip_at (h : FVec Ideal S512x1024 .bf16) (w : FVec Ideal S1024x3328 .bf16) (o : ℕ)
    (inb : ∀ a, (![0, o] : Fin 2 → ℕ) a + S1024x256.size a ≤ S1024x3328.size a) (y : S512x3328.Idx) (x : S512x256.Idx)
    (hr : (y 0).val = (x 0).val) (he : (y 1).val = o + (x 1).val) :
    k0_pay1 h (View.ld w (Rect.unit (s := S1024x3328) ![0, o] S1024x256.size inb)) x = tileOut h w y := by
  idx_vars x
  idx_vars y
  rw [dot_at]
  refine Finset.sum_congr rfl fun d _ => Ideal.mul_congr ?_ ?_
  · exact congrArg (fun i => h (ix2 i d)) (Fin.ext hr.symm)
  · refine View.ld_unit_apply_of _ _ _ _ _ _ fun a => ?_
    match a with
    | ⟨0, _⟩ => exact (Nat.zero_add _).symm
    | ⟨1, _⟩ => exact he

/-- The thirteen strips are one product. -/
theorem out_at (x : FVec Ideal S512x1024 .f32) (g : FVec Ideal S1x1024 .f32) (w : FVec Ideal S1024x3328 .bf16) (y : S512x3328.Idx) :
    out0_3 (F := Ideal) x g w y = tileOut (k0_pay4 x g) w y := by
  unfold_out out0_3
  canon_tiles z h
  all_goals rw [Cert.Kernel5Ideal.Value.ld_x, Cert.Kernel5Ideal.Value.ld_g]
  · exact strip_at (k0_pay4 x g) w 3072 _ y z h0 h1
  · exact strip_at (k0_pay4 x g) w 2816 _ y z h0 h1
  · exact strip_at (k0_pay4 x g) w 2560 _ y z h0 h1
  · exact strip_at (k0_pay4 x g) w 2304 _ y z h0 h1
  · exact strip_at (k0_pay4 x g) w 2048 _ y z h0 h1
  · exact strip_at (k0_pay4 x g) w 1792 _ y z h0 h1
  · exact strip_at (k0_pay4 x g) w 1536 _ y z h0 h1
  · exact strip_at (k0_pay4 x g) w 1280 _ y z h0 h1
  · exact strip_at (k0_pay4 x g) w 1024 _ y z h0 h1
  · exact strip_at (k0_pay4 x g) w 768 _ y z h0 h1
  · exact strip_at (k0_pay4 x g) w 512 _ y z h0 h1
  · exact strip_at (k0_pay4 x g) w 256 _ y z h0 h1
  · exact strip_at (k0_pay4 x g) w 0 _ y z h0 (h1.trans (Nat.zero_add _).symm)

/-! ## The blocks and the array -/

theorem t_lt (t : Fin cfg0.N) : t.val < 64 := t.isLt

/-- Point `t` works on the rows from `512 t` on, with the whole gain and all the weights. -/
theorem idx : ∀ t : Fin cfg0.N,
    win0_0.index t = ![t.val, 0] ∧ win0_1.index t = ![0, 0] ∧ win0_2.index t = ![0, 0] ∧ win0_3.index t = ![t.val, 0] :=
  (by decide +kernel : ∀ t : Fin grid0.N, _)

variable (m : (ℓ : Loc nD τ sig) → Buf (Elt Ideal) ℓ) (c : Dev nD) (t : Fin cfg0.N)

/-- The call's arguments. -/
abbrev argsOf : Args 2816 :=
  ⟨m ((c.tc : Thread nD τ).loc main_arg0), m ((c.tc : Thread nD τ).loc main_arg1), m ((c.tc : Thread nD τ).loc main_arg2)⟩

/-! What the host code leaves in the operands that it prepares. -/

theorem host11 : V m c main_v11 = wideW (m ((c.tc : Thread nD τ).loc main_arg2)) := by
  unfold V wideW joinW gapW
  simp only [List.flatten_cons, List.flatten_nil, List.append_nil, List.cons_append, List.nil_append, TRef.binary, TRef.unary, TRef.toBuf,
    TRef.ofBuf, cast_eq]
  after_results_simp <;> rfl

theorem host12 : V m c main_v12 = (shapeCast S1x1024 (m ((c.tc : Thread nD τ).loc main_arg1)) shapeCasts_S1024_S1x1024 : FVec Ideal S1x1024 .f32) := by
  unfold V
  simp only [List.flatten_cons, List.flatten_nil, List.append_nil, List.cons_append, List.nil_append, TRef.binary, TRef.unary, TRef.toBuf,
    TRef.ofBuf, cast_eq]
  after_results_simp <;> rfl

theorem blk0 (r : Fin 512) (k : Fin 1024) :
    iblk m c 0 t (ix2 r k) = (argsOf m c).x (ix2 ⟨512 * t.val + r.val, by have := t_lt t; omega⟩ k) := by
  blk_point [iblk, V, idx t]

theorem blk1 (k : Fin 1024) : iblk m c 1 t (ix2 0 k) = (argsOf m c).g (ix1 k) := by
  have h : iblk m c 1 t (ix2 0 k) = V m c main_v12 (ix2 0 k) := by blk_point [iblk, idx t]
  rw [h, host12]
  pointwise []

theorem blk2 (d : Fin 1024) (e : Fin 3328) :
    iblk m c 2 t (ix2 d e) = if h : oddGap e then (0 : EReal) else (argsOf m c).w (ix2 d (oddCol e h)) := by
  have h : iblk m c 2 t (ix2 d e) = V m c main_v11 (ix2 d e) := by blk_point [iblk, idx t]
  rw [h, host11]
  exact wideW_at _ d e

/-- The result array's contents. -/
def result : FVec Ideal S32768x3328 .f32 := fun i => Cert.In.oddOut (argsOf m c) (i 0) (i 1)

/-- The result's block at point `t` starts at row `512 t`. -/
theorem emb_out (X : FVec Ideal S32768x3328 .f32) (r : Fin 512) (e : Fin 3328) :
    X (((View.whole main_v13).slice (win0_3.rect t)).emb (ix2 r e)) = X (ix2 ⟨512 * t.val + r.val, by have := t_lt t; omega⟩ e) := by
  blk_point [idx t]

/-- The tile's product is the result's rows: a column of zeros adds nothing. -/
theorem tile_eq (r : Fin 512) (e : Fin 3328) :
    tileOut (k0_pay4 (iblk m c 0 t) (iblk m c 1 t)) (iblk m c 2 t) (ix2 r e)
      = Cert.In.oddOut (argsOf m c) ⟨512 * t.val + r.val, by have := t_lt t; omega⟩ e := by
  have hn (d : Fin 1024) : (k0_pay4 (iblk m c 0 t) (iblk m c 1 t) : FVec Ideal S512x1024 .bf16) (ix2 r d)
      = Cert.In.hn (argsOf m c) ⟨512 * t.val + r.val, by have := t_lt t; omega⟩ d := by
    rw [norm_at, blk1 m c t d, blk0 m c t r d]
    exact congrArg (Cert.Ffn.rms · _ _) (funext fun k => blk0 m c t r k)
  refine (Finset.sum_congr rfl fun d _ => Ideal.mul_congr (hn d) (blk2 m c t d e)).trans ?_
  unfold Cert.In.oddOut
  by_cases h : oddGap e
  · rw [dif_pos h]
    exact Finset.sum_eq_zero fun d _ => (Ideal.mul_congr rfl (dif_pos h)).trans (mul_zero _)
  · rw [dif_neg h]
    exact Finset.sum_congr rfl fun d _ => Ideal.mul_congr rfl (dif_neg h)

/-- The array the launch leaves. -/
theorem final : (dats m 0 c).arrAt 3 (cfgs 0).N = result m c := by
  refine (dats m 0 c).arrAt_eq_of_covers 3 _ (by decide +kernel) fun t _ y => ?_
  blk_simp
  rw [after0_3]
  idx_vars y
  rw [emb_out t (result m c)]
  exact (out_at _ _ _ _).trans (tile_eq m c t y0 y1)

end Cert.Kernel6Ideal.Value

end
-- ==== Proof.In.OddRef.lean ====
/- The reference's term of the odd layers' input projection is `Cert.In.oddOut` at every index. -/
module

public import proofs.«01_k».proof.Proof.Gen.Reference6Ideal.Run
public import proofs.«01_k».proof.Proof.In.EvenRef

@[expose] public section

set_option maxRecDepth 16384

noncomputable section

namespace Cert.Reference6Ideal.Value

open Cert.Reference6Ideal Cert.Reference6Ideal.Gen Idealize.ShloMosaic Idealize.ShloMosaic.TcCoe Idealize.SL.Sem
open Cert.In (Args oddGap oddCol oddCol_val dite_to)
open Cert.Reference2Ideal.Value (rH rH_at seq_row)
open Cert.Reference5Ideal.Value (rSeq rSeq_at)

/-- The projected rows. -/
def rProj (h : FVec Ideal S16x2048x1024 .f32) (w : FVec Ideal S1024x2816 .f32) : FVec Ideal S16x2048x2816 .f32 :=
  Host.dotGeneral dot_S16x2048x1024_S1024x2816_S16x2048x2816_2_0_01_1_n_n none h w

/-- Four heads of 192, each followed by 64 zeros. -/
def rGap (v : FVec Ideal S16x2048x768 .f32) : FVec Ideal S16x2048x1024 .f32 :=
  shapeCast _ (concatenate S16x2048x4x256 3 [⟨S16x2048x4x192, shapeCast S16x2048x4x192 v shapeCasts_S16x2048x768_S16x2048x4x192⟩,
    ⟨S16x2048x4x64, broadcastInDim S16x2048x4x64 ![] bcast_S_S16x2048x4x64 (constant (F := Ideal) S_ .f32 0x00000000#32)⟩] concatenates_S16x2048x4x192_S16x2048x4x64_S16x2048x4x256_d3) shapeCasts_S16x2048x4x256_S16x2048x1024

/-- Queries and keys, values, gates, and the second mixer's columns side by side. -/
def rJoin (q v g : FVec Ideal S16x2048x1024 .f32) (z : FVec Ideal S16x2048x256 .f32) : FVec Ideal S16x2048x3328 .f32 :=
  concatenate S16x2048x3328 2 [⟨S16x2048x1024, q⟩, ⟨S16x2048x1024, v⟩, ⟨S16x2048x1024, g⟩, ⟨S16x2048x256, z⟩] concatenates_S16x2048x1024_S16x2048x1024_S16x2048x1024_S16x2048x256_S16x2048x3328_d2

/-- The columns as the call leaves them. -/
def rCols (p : FVec Ideal S16x2048x2816 .f32) : FVec Ideal S16x2048x3328 .f32 :=
  rJoin (extractStridedSlice S16x2048x1024 ![0, 0, 0] p slices_S16x2048x2816_S16x2048x1024_0_0_0)
    (rGap (extractStridedSlice S16x2048x768 ![0, 0, 1024] p slices_S16x2048x2816_S16x2048x768_0_0_1024))
    (rGap (extractStridedSlice S16x2048x768 ![0, 0, 1792] p slices_S16x2048x2816_S16x2048x768_0_0_1792))
    (extractStridedSlice S16x2048x256 ![0, 0, 2560] p slices_S16x2048x2816_S16x2048x256_0_0_2560)

/-- The rows of all sequences. -/
def rFlat (x : FVec Ideal S16x2048x3328 .f32) : FVec Ideal S32768x3328 .f32 := shapeCast _ x shapeCasts_S16x2048x3328_S32768x3328

/-- The whole term. -/
def rOut (a : Args 2816) : FVec Ideal S32768x3328 .f32 := rFlat (rCols (rProj (rH a.g (rSeq a.x)) a.w))

theorem rProj_at (h : FVec Ideal S16x2048x1024 .f32) (w : FVec Ideal S1024x2816 .f32) (b : Fin 16) (s : Fin 2048) (e : Fin 2816) :
    rProj h w (ix3 b s e) = ∑ d : Fin 1024, h (ix3 b s d) * w (ix2 d e) := by
  pointwise [rProj]

theorem rFlat_at (x : FVec Ideal S16x2048x3328 .f32) (n : Fin 32768) (e : Fin 3328) :
    rFlat x (ix2 n e) = x (ix3 ⟨n / 2048, by omega⟩ ⟨n % 2048, by omega⟩ e) := by
  pointwise [rFlat]

theorem rGap_at (v : FVec Ideal S16x2048x768 .f32) (b : Fin 16) (s : Fin 2048) (e : Fin 1024) :
    rGap v (ix3 b s e) = if h : e.val % 256 < 192 then v (ix3 b s ⟨e.val / 256 * 192 + e.val % 256, by omega⟩) else 0 := by
  pointwise [rGap]

theorem rJoin_at (q v g : FVec Ideal S16x2048x1024 .f32) (z : FVec Ideal S16x2048x256 .f32) (b : Fin 16) (s : Fin 2048) (e : Fin 3328) :
    rJoin q v g z (ix3 b s e) = if h : e.val < 1024 then q (ix3 b s ⟨e, h⟩) else if h : e.val - 1024 < 1024 then v (ix3 b s ⟨e - 1024, h⟩)
      else if h : e.val - 1024 - 1024 < 1024 then g (ix3 b s ⟨e - 1024 - 1024, h⟩) else z (ix3 b s ⟨e - 1024 - 1024 - 1024, by omega⟩) := by
  pointwise [rJoin]

/-- Entries of one row agree where the columns have the same number. -/
theorem col_congr (p : FVec Ideal S16x2048x2816 .f32) (b : Fin 16) (s : Fin 2048) {k : ℕ} {hk : k < 2816} {k' : Fin 2816} (h : k = k'.val) :
    p (ix3 b s ⟨k, hk⟩) = p (ix3 b s k') := by
  subst h
  rfl

theorem slice0_at (p : FVec Ideal S16x2048x2816 .f32) (b : Fin 16) (s : Fin 2048) (e : Fin 1024) :
    extractStridedSlice S16x2048x1024 ![0, 0, 0] p slices_S16x2048x2816_S16x2048x1024_0_0_0 (ix3 b s e) = p (ix3 b s ⟨e, by omega⟩) := by
  pointwise []

theorem slice1_at (p : FVec Ideal S16x2048x2816 .f32) (b : Fin 16) (s : Fin 2048) (e : Fin 768) :
    extractStridedSlice S16x2048x768 ![0, 0, 1024] p slices_S16x2048x2816_S16x2048x768_0_0_1024 (ix3 b s e) = p (ix3 b s ⟨1024 + e, by omega⟩) := by
  pointwise []

theorem slice2_at (p : FVec Ideal S16x2048x2816 .f32) (b : Fin 16) (s : Fin 2048) (e : Fin 768) :
    extractStridedSlice S16x2048x768 ![0, 0, 1792] p slices_S16x2048x2816_S16x2048x768_0_0_1792 (ix3 b s e) = p (ix3 b s ⟨1792 + e, by omega⟩) := by
  pointwise []

theorem slice3_at (p : FVec Ideal S16x2048x2816 .f32) (b : Fin 16) (s : Fin 2048) (e : Fin 256) :
    extractStridedSlice S16x2048x256 ![0, 0, 2560] p slices_S16x2048x2816_S16x2048x256_0_0_2560 (ix3 b s e) = p (ix3 b s ⟨2560 + e, by omega⟩) := by
  pointwise []

theorem rCols_at (p : FVec Ideal S16x2048x2816 .f32) (b : Fin 16) (s : Fin 2048) (e : Fin 3328) :
    rCols p (ix3 b s e) = if h : oddGap e then 0 else p (ix3 b s (oddCol e h)) := by
  unfold rCols
  rw [rJoin_at]
  simp only [rGap_at, slice0_at, slice1_at, slice2_at, slice3_at]
  by_cases h : oddGap e
  · rw [dif_pos h]
    unfold oddGap at h
    refine dite_to (fun _ => absurd h (by omega)) fun _ => dite_to (fun _ => dif_neg (by omega)) fun _ => dite_to (fun _ => dif_neg (by omega)) fun _ =>
      absurd h (by omega)
  · rw [dif_neg h]
    have h' := h
    unfold oddGap at h'
    refine dite_to (fun _ => ?_) fun _ => dite_to (fun _ => dite_to (fun _ => ?_) fun _ => absurd h' (by omega)) fun _ =>
      dite_to (fun _ => dite_to (fun _ => ?_) fun _ => absurd h' (by omega)) fun _ => ?_
    all_goals
      refine col_congr p b s ?_
      rw [oddCol_val]
      split <;> first | omega | (split <;> omega)

/-- The projected row. -/
theorem rProj_eq (a : Args 2816) (n : Fin 32768) (e : Fin 2816) :
    rProj (rH a.g (rSeq a.x)) a.w (ix3 ⟨n / 2048, by omega⟩ ⟨n % 2048, by omega⟩ e) = Cert.In.proj a n e := by
  have hx (d : Fin 1024) : rSeq a.x (ix3 ⟨n / 2048, by omega⟩ ⟨n % 2048, by omega⟩ d) = a.x (ix2 n d) :=
    (rSeq_at _ _ _ _).trans (congrArg (fun n => a.x (ix2 n d)) (seq_row _ _))
  refine (rProj_at _ _ _ _ _).trans (Finset.sum_congr rfl fun d _ => Ideal.mul_congr ?_ rfl)
  rw [rH_at, hx d]
  exact congrArg (Cert.Ffn.rms · _ _) (funext hx)

variable (m : (ℓ : Loc nD τ sig) → Buf (Elt Ideal) ℓ)

/-- The arguments as the launch leaves them. -/
abbrev argsOf (c : Dev nD) : Args 2816 :=
  ⟨m ((c.tc : Thread nD τ).loc main_arg0), m ((c.tc : Thread nD τ).loc main_arg1), m ((c.tc : Thread nD τ).loc main_arg2)⟩

theorem res_eq (c : Dev nD) : res_main_v27 (F := Ideal) m c = rOut (argsOf m c) := by
  unfold res_main_v27 rOut rFlat rCols rJoin rGap rProj rSeq rH
  rfl

theorem res_out (c : Dev nD) : res_main_v27 (F := Ideal) m c = fun i : S32768x3328.Idx => Cert.In.oddOut (argsOf m c) (i 0) (i 1) := by
  rw [res_eq]
  funext i
  idx_vars i
  unfold rOut
  rw [rFlat_at, rCols_at]
  exact dite_congr rfl (fun _ => rfl) fun _ => rProj_eq (argsOf m c) i0 _

end Cert.Reference6Ideal.Value

end
-- ==== Proof.Glu.Spec.lean ====
/- The state space's skip, gelu and gated linear unit, at coordinates: column `e` of row `n` of the token array. -/
module

public import proofs.«01_k».proof.Proof.Ffn.Spec

@[expose] public section

noncomputable section

namespace Cert.Glu

open Idealize.ShloMosaic

/-- The arguments: the state space's rows, the projected rows its inputs are the last columns of, the skip's gain, the gate's weights
    and bias. -/
structure Args where
  y : FVec Ideal ⟨2, ![32768, 256]⟩ .f32
  p : FVec Ideal ⟨2, ![32768, 3328]⟩ .f32
  d : FVec Ideal ⟨1, ![256]⟩ .f32
  w : FVec Ideal ⟨2, ![256, 256]⟩ .f32
  b : FVec Ideal ⟨1, ![256]⟩ .f32

/-- The row with the skip. -/
def skip (a : Args) (n : Fin 32768) (e : Fin 256) : EReal := a.y (ix2 n e) + a.d (ix1 e) * a.p (ix2 n ⟨3072 + e, by omega⟩)

/-- The gelu with the hyperbolic tangent. -/
def gelu (v : EReal) : EReal :=
  v * (Ideal.ofBits .f32 0x3F000000#32 * (1 + Ideal.tanh (Ideal.ofBits .f32 0x3F4C422A#32 * (v + Ideal.ofBits .f32 0x3D372713#32 * (v * v * v)))))

/-- An entry `v` times the logistic function of the gate `z`. -/
def gate (v z : EReal) : EReal := v * Ideal.div 1 (1 + Ideal.exp (-z))

/-- The result. -/
def out (a : Args) (n : Fin 32768) (e : Fin 256) : EReal :=
  gate (gelu (skip a n e)) ((∑ k : Fin 256, gelu (skip a n k) * a.w (ix2 k e)) + a.b (ix1 e))

end Cert.Glu

end
-- ==== Proof.Glu.Value.lean ====
/- The state space's gated linear unit: what a grid point writes, and the array it leaves. -/
module

public import proofs.«01_k».proof.Proof.Gen.Kernel7Ideal.Value
public import proofs.«01_k».proof.Proof.Glu.Spec

@[expose] public section

set_option maxRecDepth 16384

noncomputable section

namespace Cert.Kernel7Ideal.Value

open Cert.Kernel7Ideal Cert.Kernel7Ideal.Gen Idealize.ShloMosaic Idealize.ShloMosaic.TcCoe Idealize.SL.Sem
open Idealize.ShloMosaic.Pipeline (Dat)
open Cert.Glu (Args gelu gate)

/-! ## A tile -/

/-- The rows with the skip. -/
def kSkip (y : FVec Ideal S512x256 .f32) (d : FVec Ideal S1x256 .f32) (u : FVec Ideal S512x256 .f32) : FVec Ideal S512x256 .f32 :=
  addf y (mulf (broadcastTo S512x256 (shapeCast S1x256 d shapeCasts_S1x256_S1x256) broadcasts_S1x256_S512x256) u)

/-- Their gelu. -/
def kGelu (v : FVec Ideal S512x256 .f32) : FVec Ideal S512x256 .f32 :=
  mulf (mulf (broadcast S512x256 (Scalar.ofBits .f32 0x3F000000#32)) v)
    (addf (broadcast S512x256 (Scalar.ofBits .f32 0x3F800000#32)) (tanh (mulf (broadcast S512x256 (Scalar.ofBits .f32 0x3F4C422A#32))
      (addf v (mulf (broadcast S512x256 (Scalar.ofBits .f32 0x3D372713#32)) (mulf (mulf v v) v))))))

/-- What the gate's logistic function is taken of. -/
def kLin (g : FVec Ideal S512x256 .f32) (w : FVec Ideal S256x256 .bf16) (b : FVec Ideal S1x256 .f32) : FVec Ideal S512x256 .f32 :=
  addf (matmul dot_S512x256_S256x256_S512x256_1_0_0_1_n_n none (truncf .bf16 g bitsLt_bf16_f32)
      (shapeCast S256x256 w shapeCasts_S256x256_S256x256) (constant S512x256 .f32 0x00000000#32))
    (broadcastTo S512x256 (shapeCast S1x256 b shapeCasts_S1x256_S1x256) broadcasts_S1x256_S512x256)

/-- The gated rows. -/
def kGate (g z : FVec Ideal S512x256 .f32) : FVec Ideal S512x256 .bf16 :=
  truncf .bf16 (mulf g (divf (broadcast S512x256 (Scalar.ofBits .f32 0x3F800000#32))
    (addf (broadcast S512x256 (Scalar.ofBits .f32 0x3F800000#32)) (exp (subf (broadcast S512x256 (Scalar.ofBits .f32 0x00000000#32)) z))))) bitsLt_bf16_f32

theorem kSkip_at (y : FVec Ideal S512x256 .f32) (d : FVec Ideal S1x256 .f32) (u : FVec Ideal S512x256 .f32) (r : Fin 512) (e : Fin 256) :
    kSkip y d u (ix2 r e) = y (ix2 r e) + d (ix2 0 e) * u (ix2 r e) := by
  pointwise [kSkip]

theorem kGelu_at (v : FVec Ideal S512x256 .f32) (r : Fin 512) (e : Fin 256) : kGelu v (ix2 r e) = gelu (v (ix2 r e)) := by
  pointwise [kGelu]
  exact (congrArg (· * _) (mul_comm _ _)).trans (mul_assoc _ _ _)

theorem kLin_at (g : FVec Ideal S512x256 .f32) (w : FVec Ideal S256x256 .bf16) (b : FVec Ideal S1x256 .f32) (r : Fin 512) (e : Fin 256) :
    kLin g w b (ix2 r e) = (∑ k : Fin 256, g (ix2 r k) * w (ix2 k e)) + b (ix2 0 e) := by
  pointwise [kLin]

theorem kGate_at (g z : FVec Ideal S512x256 .f32) (r : Fin 512) (e : Fin 256) : kGate g z (ix2 r e) = gate (g (ix2 r e)) (z (ix2 r e)) := by
  pointwise [kGate, gate]
  rw [zero_sub]

theorem pay_eq (y : FVec Ideal S512x256 .f32) (d : FVec Ideal S1x256 .f32) (u : FVec Ideal S512x256 .f32) (w : FVec Ideal S256x256 .bf16)
    (b : FVec Ideal S1x256 .f32) :
    (k0_pay1 y d u w b : FVec Ideal S512x256 .bf16) = kGate (kGelu (kSkip y d u)) (kLin (kGelu (kSkip y d u)) w b) := by
  unfold k0_pay1 kGate kLin kGelu kSkip
  rfl

/-- The tile's entries. -/
theorem out_at (y u : FVec Ideal S512x256 .f32) (d : FVec Ideal S1x256 .f32) (w : FVec Ideal S256x256 .bf16) (b : FVec Ideal S1x256 .f32)
    (r : Fin 512) (e : Fin 256) :
    out0_5 (F := Ideal) y u d w b (ix2 r e) = gate (gelu (kSkip y d u (ix2 r e)))
      ((∑ k : Fin 256, gelu (kSkip y d u (ix2 r k)) * w (ix2 k e)) + b (ix2 0 e)) := by
  have h : out0_5 (F := Ideal) y u d w b = (k0_pay1 (F := Ideal) y d u w b : FVec Ideal S512x256 .bf16) := by
    frame_out
  rw [h, pay_eq, kGate_at, kLin_at, kGelu_at]
  exact congrArg (gate _) (Ideal.add_congr (Finset.sum_congr rfl fun k _ => Ideal.mul_congr (kGelu_at _ _ _) rfl) rfl)

/-! ## The blocks and the array -/

theorem t_lt (t : Fin cfg0.N) : t.val < 64 := t.isLt

/-- Point `t` works on the rows from `512 t` on: all columns of the state space's, and the last 256 of the projected rows. -/
theorem idx : ∀ t : Fin cfg0.N,
    win0_0.index t = ![t.val, 0] ∧ win0_1.index t = ![t.val, 12] ∧ win0_2.index t = ![0, 0] ∧ win0_3.index t = ![0, 0]
      ∧ win0_4.index t = ![0, 0] ∧ win0_5.index t = ![t.val, 0] :=
  (by decide +kernel : ∀ t : Fin grid0.N, _)

variable (m : (ℓ : Loc nD τ sig) → Buf (Elt Ideal) ℓ) (c : Dev nD) (t : Fin cfg0.N)

/-- The call's arguments. -/
abbrev argsOf : Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4)⟩

/-- A vector read as a row. -/
theorem row_at (v : FVec Ideal S256 .f32) (e : Fin 256) : (shapeCast S1x256 v shapeCasts_S256_S1x256 : FVec Ideal S1x256 .f32) (ix2 0 e) = v (ix1 e) := by
  pointwise []

theorem blk0 (r : Fin 512) (e : Fin 256) :
    iblk m c 0 t (ix2 r e) = (argsOf m c).y (ix2 ⟨512 * t.val + r.val, by have := t_lt t; omega⟩ e) := by
  blk_point [iblk, V, idx t]

theorem blk1 (r : Fin 512) (e : Fin 256) :
    iblk m c 1 t (ix2 r e) = (argsOf m c).p (ix2 ⟨512 * t.val + r.val, by have := t_lt t; omega⟩ ⟨3072 + e, by omega⟩) := by
  blk_point [iblk, V, idx t]

theorem blk2 (e : Fin 256) : iblk m c 2 t (ix2 0 e) = (argsOf m c).d (ix1 e) := by
  have h : iblk m c 2 t (ix2 0 e) = (shapeCast S1x256 (argsOf m c).d shapeCasts_S256_S1x256 : FVec Ideal S1x256 .f32) (ix2 0 e) := by
    blk_point [iblk, V, idx t]
  exact h.trans (row_at _ e)

theorem blk3 (k e : Fin 256) : iblk m c 3 t (ix2 k e) = (argsOf m c).w (ix2 k e) := by
  blk_point [iblk, V, idx t]

theorem blk4 (e : Fin 256) : iblk m c 4 t (ix2 0 e) = (argsOf m c).b (ix1 e) := by
  have h : iblk m c 4 t (ix2 0 e) = (shapeCast S1x256 (argsOf m c).b shapeCasts_S256_S1x256 : FVec Ideal S1x256 .f32) (ix2 0 e) := by
    blk_point [iblk, V, idx t]
  exact h.trans (row_at _ e)

/-- The result array's contents. -/
def result : FVec Ideal S32768x256 .bf16 := fun i => Cert.Glu.out (argsOf m c) (i 0) (i 1)

/-- The result's block at point `t` starts at row `512 t`. -/
theorem emb_out (X : FVec Ideal S32768x256 .bf16) (r : Fin 512) (e : Fin 256) :
    X (((View.whole main_v3).slice (win0_5.rect t)).emb (ix2 r e)) = X (ix2 ⟨512 * t.val + r.val, by have := t_lt t; omega⟩ e) := by
  blk_point [idx t]

/-- The tile is the result's rows. -/
theorem tile_eq (r : Fin 512) (e : Fin 256) :
    out0_5 (iblk m c 0 t) (iblk m c 1 t) (iblk m c 2 t) (iblk m c 3 t) (iblk m c 4 t) (ix2 r e)
      = Cert.Glu.out (argsOf m c) ⟨512 * t.val + r.val, by have := t_lt t; omega⟩ e := by
  have hs (k : Fin 256) : kSkip (iblk m c 0 t) (iblk m c 2 t) (iblk m c 1 t) (ix2 r k)
      = Cert.Glu.skip (argsOf m c) ⟨512 * t.val + r.val, by have := t_lt t; omega⟩ k :=
    (kSkip_at _ _ _ _ _).trans (Ideal.add_congr (blk0 m c t r k) (Ideal.mul_congr (blk2 m c t k) (blk1 m c t r k)))
  refine (out_at _ _ _ _ _ r e).trans ?_
  rw [hs e]
  exact congrArg (gate _) (Ideal.add_congr (Finset.sum_congr rfl fun k _ => Ideal.mul_congr (congrArg gelu (hs k)) (blk3 m c t k e)) (blk4 m c t e))

/-- The array the launch leaves. -/
theorem final : (dats m 0 c).arrAt 5 (cfgs 0).N = result m c := by
  refine (dats m 0 c).arrAt_eq_of_covers 5 _ (by decide +kernel) fun t _ y => ?_
  blk_simp
  rw [after0_5]
  idx_vars y
  rw [emb_out t (result m c)]
  exact tile_eq m c t y0 y1

end Cert.Kernel7Ideal.Value

end
-- ==== Proof.Glu.Ref.lean ====
/- The reference's term of the state space's gated linear unit is `Cert.Glu.out` at every index. -/
module

public import proofs.«01_k».proof.Proof.Gen.Reference7Ideal.Run
public import proofs.«01_k».proof.Proof.Glu.Spec
public import proofs.«01_k».proof.Proof.Ffn.Ref

@[expose] public section

set_option maxRecDepth 16384

noncomputable section

namespace Cert.Reference7Ideal.Value

open Cert.Reference7Ideal Cert.Reference7Ideal.Gen Idealize.ShloMosaic Idealize.ShloMosaic.TcCoe Idealize.SL.Sem
open Cert.Glu (Args gelu gate)
open Cert.Reference2Ideal.Value (seq_row)

/-- One number everywhere. -/
def rNum (x : BitVec 32) : FVec Ideal S16x2048x256 .f32 := broadcastInDim S16x2048x256 ![] bcast_S_S16x2048x256 (constant (F := Ideal) S_ .f32 x)

/-- One row at every place of every sequence. -/
def rRow (v : FVec Ideal S256 .f32) : FVec Ideal S16x2048x256 .f32 :=
  broadcastInDim S16x2048x256 ![0, 1, 2] bcast_S1x1x256_S16x2048x256_0_1_2 (broadcastInDim S1x1x256 ![2] bcast_S256_S1x1x256_2 v)

/-- The rows with the skip, by sequences. -/
def rSkip (y : FVec Ideal S32768x256 .f32) (p : FVec Ideal S32768x3328 .f32) (d : FVec Ideal S256 .f32) : FVec Ideal S16x2048x256 .f32 :=
  addf (shapeCast _ y shapeCasts_S32768x256_S16x2048x256) (mulf (rRow d)
    (extractStridedSlice S16x2048x256 ![0, 0, 3072] (shapeCast _ p shapeCasts_S32768x3328_S16x2048x3328) slices_S16x2048x3328_S16x2048x256_0_0_3072))

/-- Their gelu. -/
def rGelu (v : FVec Ideal S16x2048x256 .f32) : FVec Ideal S16x2048x256 .f32 :=
  mulf v (mulf (rNum 0x3F000000#32) (addf (rNum 0x3F800000#32) (Host.tanh (mulf (rNum 0x3F4C422A#32)
    (addf v (mulf (rNum 0x3D372713#32) (mulf (mulf v v) v)))))))

/-- What the gate's logistic function is taken of. -/
def rLin (g : FVec Ideal S16x2048x256 .f32) (w : FVec Ideal S256x256 .f32) (b : FVec Ideal S256 .f32) : FVec Ideal S16x2048x256 .f32 :=
  addf (Host.dotGeneral dot_S16x2048x256_S256x256_S16x2048x256_2_0_01_1_n_n none g w) (rRow b)

/-- The gated rows. -/
def rGate (g z : FVec Ideal S16x2048x256 .f32) : FVec Ideal S16x2048x256 .f32 :=
  mulf g (Host.divf (rNum 0x3F800000#32) (addf (rNum 0x3F800000#32) (Host.exp (Host.negf z))))

/-- The rows of all sequences. -/
def rFlat (x : FVec Ideal S16x2048x256 .f32) : FVec Ideal S32768x256 .bf16 :=
  truncf .bf16 (shapeCast S32768x256 x shapeCasts_S16x2048x256_S32768x256) bitsLt_bf16_f32

/-- The whole term. -/
def rOut (a : Args) : FVec Ideal S32768x256 .bf16 :=
  rFlat (rGate (rGelu (rSkip a.y a.p a.d)) (rLin (rGelu (rSkip a.y a.p a.d)) a.w a.b))

theorem rSkip_at (y : FVec Ideal S32768x256 .f32) (p : FVec Ideal S32768x3328 .f32) (d : FVec Ideal S256 .f32) (b : Fin 16) (s : Fin 2048) (e : Fin 256) :
    rSkip y p d (ix3 b s e)
      = y (ix2 ⟨b * 2048 + s, by omega⟩ e) + d (ix1 e) * p (ix2 ⟨b * 2048 + s, by omega⟩ ⟨3072 + e, by omega⟩) := by
  pointwise [rSkip, rRow]

theorem rGelu_at (v : FVec Ideal S16x2048x256 .f32) (b : Fin 16) (s : Fin 2048) (e : Fin 256) : rGelu v (ix3 b s e) = gelu (v (ix3 b s e)) := by
  pointwise [rGelu, rNum, gelu]

theorem rLin_at (g : FVec Ideal S16x2048x256 .f32) (w : FVec Ideal S256x256 .f32) (v : FVec Ideal S256 .f32) (b : Fin 16) (s : Fin 2048) (e : Fin 256) :
    rLin g w v (ix3 b s e) = (∑ k : Fin 256, g (ix3 b s k) * w (ix2 k e)) + v (ix1 e) := by
  pointwise [rLin, rRow]

theorem rGate_at (g z : FVec Ideal S16x2048x256 .f32) (b : Fin 16) (s : Fin 2048) (e : Fin 256) :
    rGate g z (ix3 b s e) = gate (g (ix3 b s e)) (z (ix3 b s e)) := by
  pointwise [rGate, rNum, gate]

theorem rFlat_at (x : FVec Ideal S16x2048x256 .f32) (n : Fin 32768) (e : Fin 256) :
    rFlat x (ix2 n e) = x (ix3 ⟨n / 2048, by omega⟩ ⟨n % 2048, by omega⟩ e) := by
  pointwise [rFlat]

/-- The row with the skip. -/
theorem rSkip_eq (a : Args) (n : Fin 32768) (e : Fin 256) :
    rSkip a.y a.p a.d (ix3 ⟨n / 2048, by omega⟩ ⟨n % 2048, by omega⟩ e) = Cert.Glu.skip a n e :=
  (rSkip_at _ _ _ _ _ _).trans (congrArg (fun n => a.y (ix2 n e) + a.d (ix1 e) * a.p (ix2 n ⟨3072 + e, by omega⟩)) (seq_row n _))

variable (m : (ℓ : Loc nD τ sig) → Buf (Elt Ideal) ℓ)

/-- The arguments as the launch leaves them. -/
abbrev argsOf (c : Dev nD) : Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4)⟩

theorem res_eq (c : Dev nD) : res_main_v32 (F := Ideal) m c = rOut (argsOf m c) := by
  unfold res_main_v32 rOut rFlat rGate rLin rGelu rSkip rRow rNum
  rfl

theorem res_out (c : Dev nD) : res_main_v32 (F := Ideal) m c = fun i : S32768x256.Idx => Cert.Glu.out (argsOf m c) (i 0) (i 1) := by
  rw [res_eq]
  funext i
  idx_vars i
  unfold rOut
  rw [rFlat_at, rGate_at, rLin_at, rGelu_at, rSkip_eq]
  exact congrArg (gate _) (Ideal.add_congr (Finset.sum_congr rfl fun k _ =>
    Ideal.mul_congr ((rGelu_at _ _ _ _).trans (congrArg gelu (rSkip_eq (argsOf m c) i0 k))) rfl) rfl)

end Cert.Reference7Ideal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.K.Frame
public import proofs.«01_k».proof.Proof.KI.Frame
public import proofs.«01_k».proof.Proof.Ffn.Value
public import proofs.«01_k».proof.Proof.Ffn.Ref
public import proofs.«01_k».proof.Proof.Ffn.LastValue
public import proofs.«01_k».proof.Proof.Ffn.LastRef
public import proofs.«01_k».proof.Proof.Ffn.Layer1Value
public import proofs.«01_k».proof.Proof.Ffn.Layer1Ref
public import proofs.«01_k».proof.Proof.In.Even
public import proofs.«01_k».proof.Proof.In.EvenRef
public import proofs.«01_k».proof.Proof.In.Odd
public import proofs.«01_k».proof.Proof.In.OddRef
public import proofs.«01_k».proof.Proof.Glu.Spec
public import proofs.«01_k».proof.Proof.Glu.Value
public import proofs.«01_k».proof.Proof.Glu.Ref
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ => Cert.Kernel.Hand.run_frame m ρ

theorem frame_kernelIdeal : Cert.quiescent_KernelIdeal := fun m ρ _ => Cert.KernelIdeal.Hand.run_frame m ρ

theorem frame_referenceIdeal : Cert.quiescent_ReferenceIdeal := fun m ρ _ =>
  (θ_run Cert.ReferenceIdeal.defs _ _).mono (fun r h => ⟨fun c => ⟨(h c).2.1, (h c).2.2⟩,
    Idealize.ShloMosaic.sem_eq_zero_of_no_sems (by decide) r.2⟩) (Cert.ReferenceIdeal.Value.run m ρ)

theorem preserves : Cert.preserves_Kernel_KernelIdeal := IdealRules.named_const.statement _ _ .f32 _ _ rfl

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2Ideal : Cert.quiescent_Reference2Ideal := fun m ρ _ =>
  (θ_run Cert.Reference2Ideal.defs _ _).mono (fun r h => ⟨fun c => (h c).2,
    Idealize.ShloMosaic.sem_eq_zero_of_no_sems (by decide) r.2⟩) (Cert.Reference2Ideal.Value.run m ρ)

theorem preserves2 : Cert.preserves_Kernel2_Kernel2Ideal := trivial

/-- Both programs leave `Cert.Ffn.out` of the arguments, entry by entry. -/
theorem algebraic2 : Cert.algebraic_Kernel2Ideal_Reference2Ideal := fun m g m' g' _ hagree =>
  ⟨fun c => Cert.Kernel2Ideal.Value.result m c,
    (θ_run Cert.Kernel2Ideal.defs _ _).mono (fun r h c => ⟨(h c).1.trans (Cert.Kernel2Ideal.Value.final m c), (h c).2⟩)
      (Cert.Kernel2Ideal.Value.run_blocks m g),
    (θ_run Cert.Reference2Ideal.defs _ _).mono (fun r h c => ⟨(h c).1.trans ((Cert.Reference2Ideal.Value.res_out m' c).trans (by
        have ha : Cert.Reference2Ideal.Value.argsOf m' c = Cert.Kernel2Ideal.Value.argsOf m c := by
          rw [Cert.Ffn.Args.mk.injEq]
          exact hagree c
        rw [ha]
        rfl)), (h c).2⟩) (Cert.Reference2Ideal.Value.run m' g')⟩

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3Ideal : Cert.quiescent_Reference3Ideal := fun m ρ _ =>
  (θ_run Cert.Reference3Ideal.defs _ _).mono (fun r h => ⟨fun c => (h c).2,
    Idealize.ShloMosaic.sem_eq_zero_of_no_sems (by decide) r.2⟩) (Cert.Reference3Ideal.Value.run m ρ)

theorem preserves3 : Cert.preserves_Kernel3_Kernel3Ideal := trivial

/-- Both programs leave `Cert.Ffn.fin` of the arguments, entry by entry. -/
theorem algebraic3 : Cert.algebraic_Kernel3Ideal_Reference3Ideal := fun m g m' g' _ hagree =>
  ⟨fun c => Cert.Kernel3Ideal.Value.result m c,
    (θ_run Cert.Kernel3Ideal.defs _ _).mono (fun r h c => ⟨(h c).1.trans (Cert.Kernel3Ideal.Value.final m c), (h c).2⟩)
      (Cert.Kernel3Ideal.Value.run_blocks m g),
    (θ_run Cert.Reference3Ideal.defs _ _).mono (fun r h c => ⟨(h c).1.trans ((Cert.Reference3Ideal.Value.res_out m' c).trans (by
        have ha : Cert.Reference3Ideal.Value.argsOf m' c = Cert.Kernel3Ideal.Value.argsOf m c := by
          rw [Cert.Ffn.OddArgs.mk.injEq]
          exact hagree c
        rw [ha]
        rfl)), (h c).2⟩) (Cert.Reference3Ideal.Value.run m' g')⟩

theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_reference4Ideal : Cert.quiescent_Reference4Ideal := fun m ρ _ =>
  (θ_run Cert.Reference4Ideal.defs _ _).mono (fun r h => ⟨fun c => (h c).2,
    Idealize.ShloMosaic.sem_eq_zero_of_no_sems (by decide) r.2⟩) (Cert.Reference4Ideal.Value.run m ρ)

theorem preserves4 : Cert.preserves_Kernel4_Kernel4Ideal := trivial

/-- Both programs leave `Cert.Ffn.out` of the arguments, entry by entry. -/
theorem algebraic4 : Cert.algebraic_Kernel4Ideal_Reference4Ideal := fun m g m' g' _ hagree =>
  ⟨fun c => Cert.Kernel4Ideal.Value.result m c,
    (θ_run Cert.Kernel4Ideal.defs _ _).mono (fun r h c => ⟨(h c).1.trans (Cert.Kernel4Ideal.Value.final m c), (h c).2⟩)
      (Cert.Kernel4Ideal.Value.run_blocks m g),
    (θ_run Cert.Reference4Ideal.defs _ _).mono (fun r h c => ⟨(h c).1.trans ((Cert.Reference4Ideal.Value.res_out m' c).trans (by
        have ha : Cert.Reference4Ideal.Value.argsOf m' c = Cert.Kernel4Ideal.Value.argsOf m c := by
          rw [Cert.Ffn.OddArgs.mk.injEq]
          exact hagree c
        rw [ha]
        rfl)), (h c).2⟩) (Cert.Reference4Ideal.Value.run m' g')⟩

theorem frame_kernel5 : Cert.quiescent_Kernel5 := fun m ρ _ => Cert.Kernel5.Gen.frame m ρ

theorem frame_kernel5Ideal : Cert.quiescent_Kernel5Ideal := fun m ρ _ => Cert.Kernel5Ideal.Gen.frame m ρ

theorem frame_reference5Ideal : Cert.quiescent_Reference5Ideal := fun m ρ _ =>
  (θ_run Cert.Reference5Ideal.defs _ _).mono (fun r h => ⟨fun c => (h c).2,
    Idealize.ShloMosaic.sem_eq_zero_of_no_sems (by decide) r.2⟩) (Cert.Reference5Ideal.Value.run m ρ)

theorem preserves5 : Cert.preserves_Kernel5_Kernel5Ideal := trivial

/-- Both programs leave `Cert.In.evenOut` of the arguments, entry by entry. -/
theorem algebraic5 : Cert.algebraic_Kernel5Ideal_Reference5Ideal := fun m g m' g' _ hagree =>
  ⟨fun c => Cert.Kernel5Ideal.Value.result m c,
    (θ_run Cert.Kernel5Ideal.defs _ _).mono (fun r h c => ⟨(h c).1.trans (Cert.Kernel5Ideal.Value.final m c), (h c).2⟩)
      (Cert.Kernel5Ideal.Value.run_blocks m g),
    (θ_run Cert.Reference5Ideal.defs _ _).mono (fun r h c => ⟨(h c).1.trans (by
        have ha : Cert.Reference5Ideal.Value.argsOf m' c = Cert.Kernel5Ideal.Value.argsOf m c := by
          rw [Cert.In.Args.mk.injEq]
          exact hagree c
        rw [ha]
        rfl), (h c).2⟩) (Cert.Reference5Ideal.Value.run_out m' g')⟩

theorem frame_kernel6 : Cert.quiescent_Kernel6 := fun m ρ _ => Cert.Kernel6.Gen.frame m ρ

theorem frame_kernel6Ideal : Cert.quiescent_Kernel6Ideal := fun m ρ _ => Cert.Kernel6Ideal.Gen.frame m ρ

theorem frame_reference6Ideal : Cert.quiescent_Reference6Ideal := fun m ρ _ =>
  (θ_run Cert.Reference6Ideal.defs _ _).mono (fun r h => ⟨fun c => (h c).2,
    Idealize.ShloMosaic.sem_eq_zero_of_no_sems (by decide) r.2⟩) (Cert.Reference6Ideal.Value.run m ρ)

theorem preserves6 : Cert.preserves_Kernel6_Kernel6Ideal := trivial

/-- Both programs leave `Cert.In.oddOut` of the arguments, entry by entry. -/
theorem algebraic6 : Cert.algebraic_Kernel6Ideal_Reference6Ideal := fun m g m' g' _ hagree =>
  ⟨fun c => Cert.Kernel6Ideal.Value.result m c,
    (θ_run Cert.Kernel6Ideal.defs _ _).mono (fun r h c => ⟨(h c).1.trans (Cert.Kernel6Ideal.Value.final m c), (h c).2⟩)
      (Cert.Kernel6Ideal.Value.run_blocks m g),
    (θ_run Cert.Reference6Ideal.defs _ _).mono (fun r h c => ⟨(h c).1.trans ((Cert.Reference6Ideal.Value.res_out m' c).trans (by
        have ha : Cert.Reference6Ideal.Value.argsOf m' c = Cert.Kernel6Ideal.Value.argsOf m c := by
          rw [Cert.In.Args.mk.injEq]
          exact hagree c
        rw [ha]
        rfl)), (h c).2⟩) (Cert.Reference6Ideal.Value.run m' g')⟩

theorem frame_kernel7 : Cert.quiescent_Kernel7 := fun m ρ _ => Cert.Kernel7.Gen.frame m ρ

theorem frame_kernel7Ideal : Cert.quiescent_Kernel7Ideal := fun m ρ _ => Cert.Kernel7Ideal.Gen.frame m ρ

theorem frame_reference7Ideal : Cert.quiescent_Reference7Ideal := fun m ρ _ =>
  (θ_run Cert.Reference7Ideal.defs _ _).mono (fun r h => ⟨fun c => (h c).2,
    Idealize.ShloMosaic.sem_eq_zero_of_no_sems (by decide) r.2⟩) (Cert.Reference7Ideal.Value.run m ρ)

theorem preserves7 : Cert.preserves_Kernel7_Kernel7Ideal := trivial

/-- Both programs leave `Cert.Glu.out` of the arguments, entry by entry. -/
theorem algebraic7 : Cert.algebraic_Kernel7Ideal_Reference7Ideal := fun m g m' g' _ hagree =>
  ⟨fun c => Cert.Kernel7Ideal.Value.result m c,
    (θ_run Cert.Kernel7Ideal.defs _ _).mono (fun r h c => ⟨(h c).1.trans (Cert.Kernel7Ideal.Value.final m c), (h c).2⟩)
      (Cert.Kernel7Ideal.Value.run_blocks m g),
    (θ_run Cert.Reference7Ideal.defs _ _).mono (fun r h c => ⟨(h c).1.trans ((Cert.Reference7Ideal.Value.res_out m' c).trans (by
        have ha : Cert.Reference7Ideal.Value.argsOf m' c = Cert.Kernel7Ideal.Value.argsOf m c := by
          rw [Cert.Glu.Args.mk.injEq]
          exact hagree c
        rw [ha]
        rfl)), (h c).2⟩) (Cert.Reference7Ideal.Value.run m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  frame_kernel, frame_kernelIdeal, frame_referenceIdeal,
  frame_kernel2, frame_kernel2Ideal, frame_reference2Ideal,
  frame_kernel3, frame_kernel3Ideal, frame_reference3Ideal,
  frame_kernel4, frame_kernel4Ideal, frame_reference4Ideal,
  frame_kernel5, frame_kernel5Ideal, frame_reference5Ideal,
  frame_kernel6, frame_kernel6Ideal, frame_reference6Ideal,
  frame_kernel7, frame_kernel7Ideal, frame_reference7Ideal,
  preserves, preserves2, algebraic2, preserves3, algebraic3, preserves4, algebraic4, preserves5, algebraic5, preserves6, algebraic6,
  preserves7, algebraic7⟩

end Cert.Proof

end
